-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 4, 4] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![2048, 512]⟩ ⟨2, ![2048, 1024]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S2048x512 : Shape := ⟨2, ![2048, 512]⟩
abbrev S8 : Shape := ⟨1, ![8]⟩
abbrev S_ : Shape := ⟨0, ![]⟩
abbrev S1x256x512 : Shape := ⟨3, ![1, 256, 512]⟩
abbrev S256x512 : Shape := ⟨2, ![256, 512]⟩
abbrev S1 : Shape := ⟨1, ![1]⟩

abbrev nBuf : Space → Nat
  | .hbm => 2
  | .vmem => 4
  | .smem => 0
  | _ => 0

abbrev bufTy : (tb : Table) → Fin (tcTables nBuf tb) → BufTy
  | .hbm, ⟨0, _⟩ => ⟨S1x2048x1024, .f32⟩
  | .hbm, ⟨1, _⟩ => ⟨S2048x512, .f32⟩
  | .local _ .vmem, ⟨0, _⟩ => ⟨S1x2048x1024, .f32⟩
  | .local _ .vmem, ⟨1, _⟩ => ⟨S2048x512, .f32⟩
  | .local _ .vmem, ⟨2, _⟩ => ⟨S2048x512, .bf16⟩
  | .local _ .vmem, ⟨3, _⟩ => ⟨S2048x512, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) : Fin 3 → Nat :=
  let c0 : Index := 0#32
  let c0_9 : Index := 0#32
  let c1_i32_8 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v17 : BitVec 32 := Scalar.subi c1_i32_8 v2
  let c512_i32 : BitVec 32 := 512#32
  let v18 : BitVec 32 := Scalar.muli v17 c512_i32
  let v19 : Index := Scalar.indexCast v18
  ![0, 0, v19.toNat]
def k0_dev2 (d0 : Dev nD) : Nat :=
  let c0_i32_15 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_14 : BitVec 32 := 16#32
  let v26 : BitVec 32 := Scalar.muli v9 c16_i32_14
  let v27 : BitVec 32 := Scalar.addi c0_i32_15 v26
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_16 : BitVec 32 := 4#32
  let v28 : BitVec 32 := Scalar.muli v5 c4_i32_16
  let v29 : BitVec 32 := Scalar.addi v27 v28
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_17 : BitVec 32 := 1#32
  let v30 : BitVec 32 := Scalar.muli v8 c1_i32_17
  let v31 : BitVec 32 := Scalar.addi v29 v30
  v31.toNat
def k0_off2 (d0 : Dev nD) : Fin 3 → Nat :=
  let c0_24 : Index := 0#32
  let c256 : Index := 256#32
  let c1_i32_22 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v38 : BitVec 32 := Scalar.subi c1_i32_22 v2
  let c512_i32_23 : BitVec 32 := 512#32
  let v39 : BitVec 32 := Scalar.muli v38 c512_i32_23
  let v40 : Index := Scalar.indexCast v39
  ![0, 256, v40.toNat]
def k0_dev3 (d0 : Dev nD) : Nat :=
  let c0_i32_30 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_29 : BitVec 32 := 16#32
  let v47 : BitVec 32 := Scalar.muli v9 c16_i32_29
  let v48 : BitVec 32 := Scalar.addi c0_i32_30 v47
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_31 : BitVec 32 := 4#32
  let v49 : BitVec 32 := Scalar.muli v5 c4_i32_31
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_32 : BitVec 32 := 1#32
  let v51 : BitVec 32 := Scalar.muli v8 c1_i32_32
  let v52 : BitVec 32 := Scalar.addi v50 v51
  v52.toNat
def k0_off3 (d0 : Dev nD) : Fin 3 → Nat :=
  let c0_38 : Index := 0#32
  let c512 : Index := 512#32
  let c1_i32_36 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v59 : BitVec 32 := Scalar.subi c1_i32_36 v2
  let c512_i32_37 : BitVec 32 := 512#32
  let v60 : BitVec 32 := Scalar.muli v59 c512_i32_37
  let v61 : Index := Scalar.indexCast v60
  ![0, 512, v61.toNat]
def k0_dev4 (d0 : Dev nD) : Nat :=
  let c0_i32_44 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_43 : BitVec 32 := 16#32
  let v68 : BitVec 32 := Scalar.muli v9 c16_i32_43
  let v69 : BitVec 32 := Scalar.addi c0_i32_44 v68
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_45 : BitVec 32 := 4#32
  let v70 : BitVec 32 := Scalar.muli v5 c4_i32_45
  let v71 : BitVec 32 := Scalar.addi v69 v70
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_46 : BitVec 32 := 1#32
  let v72 : BitVec 32 := Scalar.muli v8 c1_i32_46
  let v73 : BitVec 32 := Scalar.addi v71 v72
  v73.toNat
def k0_off4 (d0 : Dev nD) : Fin 3 → Nat :=
  let c0_53 : Index := 0#32
  let c768 : Index := 768#32
  let c1_i32_51 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v80 : BitVec 32 := Scalar.subi c1_i32_51 v2
  let c512_i32_52 : BitVec 32 := 512#32
  let v81 : BitVec 32 := Scalar.muli v80 c512_i32_52
  let v82 : Index := Scalar.indexCast v81
  ![0, 768, v82.toNat]
def k0_dev5 (d0 : Dev nD) : Nat :=
  let c0_i32_58 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_57 : BitVec 32 := 16#32
  let v89 : BitVec 32 := Scalar.muli v9 c16_i32_57
  let v90 : BitVec 32 := Scalar.addi c0_i32_58 v89
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_59 : BitVec 32 := 4#32
  let v91 : BitVec 32 := Scalar.muli v5 c4_i32_59
  let v92 : BitVec 32 := Scalar.addi v90 v91
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_60 : BitVec 32 := 1#32
  let v93 : BitVec 32 := Scalar.muli v8 c1_i32_60
  let v94 : BitVec 32 := Scalar.addi v92 v93
  v94.toNat
def k0_off5 (d0 : Dev nD) : Fin 3 → Nat :=
  let c0_66 : Index := 0#32
  let c1024 : Index := 1024#32
  let c1_i32_64 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v101 : BitVec 32 := Scalar.subi c1_i32_64 v2
  let c512_i32_65 : BitVec 32 := 512#32
  let v102 : BitVec 32 := Scalar.muli v101 c512_i32_65
  let v103 : Index := Scalar.indexCast v102
  ![0, 1024, v103.toNat]
def k0_dev6 (d0 : Dev nD) : Nat :=
  let c0_i32_72 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_71 : BitVec 32 := 16#32
  let v110 : BitVec 32 := Scalar.muli v9 c16_i32_71
  let v111 : BitVec 32 := Scalar.addi c0_i32_72 v110
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_73 : BitVec 32 := 4#32
  let v112 : BitVec 32 := Scalar.muli v5 c4_i32_73
  let v113 : BitVec 32 := Scalar.addi v111 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v114 : BitVec 32 := Scalar.muli v8 c1_i32_74
  let v115 : BitVec 32 := Scalar.addi v113 v114
  v115.toNat
def k0_off6 (d0 : Dev nD) : Fin 3 → Nat :=
  let c0_80 : Index := 0#32
  let c1280 : Index := 1280#32
  let c1_i32_78 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v122 : BitVec 32 := Scalar.subi c1_i32_78 v2
  let c512_i32_79 : BitVec 32 := 512#32
  let v123 : BitVec 32 := Scalar.muli v122 c512_i32_79
  let v124 : Index := Scalar.indexCast v123
  ![0, 1280, v124.toNat]
def k0_dev7 (d0 : Dev nD) : Nat :=
  let c0_i32_85 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_84 : BitVec 32 := 16#32
  let v131 : BitVec 32 := Scalar.muli v9 c16_i32_84
  let v132 : BitVec 32 := Scalar.addi c0_i32_85 v131
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_86 : BitVec 32 := 4#32
  let v133 : BitVec 32 := Scalar.muli v5 c4_i32_86
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_87 : BitVec 32 := 1#32
  let v135 : BitVec 32 := Scalar.muli v8 c1_i32_87
  let v136 : BitVec 32 := Scalar.addi v134 v135
  v136.toNat
def k0_off7 (d0 : Dev nD) : Fin 3 → Nat :=
  let c0_93 : Index := 0#32
  let c1536 : Index := 1536#32
  let c1_i32_91 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v143 : BitVec 32 := Scalar.subi c1_i32_91 v2
  let c512_i32_92 : BitVec 32 := 512#32
  let v144 : BitVec 32 := Scalar.muli v143 c512_i32_92
  let v145 : Index := Scalar.indexCast v144
  ![0, 1536, v145.toNat]
def k0_dev8 (d0 : Dev nD) : Nat :=
  let c0_i32_98 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_97 : BitVec 32 := 16#32
  let v152 : BitVec 32 := Scalar.muli v9 c16_i32_97
  let v153 : BitVec 32 := Scalar.addi c0_i32_98 v152
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_99 : BitVec 32 := 4#32
  let v154 : BitVec 32 := Scalar.muli v5 c4_i32_99
  let v155 : BitVec 32 := Scalar.addi v153 v154
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_100 : BitVec 32 := 1#32
  let v156 : BitVec 32 := Scalar.muli v8 c1_i32_100
  let v157 : BitVec 32 := Scalar.addi v155 v156
  v157.toNat
def k0_off8 (d0 : Dev nD) : Fin 3 → Nat :=
  let c0_106 : Index := 0#32
  let c1792 : Index := 1792#32
  let c1_i32_104 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v164 : BitVec 32 := Scalar.subi c1_i32_104 v2
  let c512_i32_105 : BitVec 32 := 512#32
  let v165 : BitVec 32 := Scalar.muli v164 c512_i32_105
  let v166 : Index := Scalar.indexCast v165
  ![0, 1792, v166.toNat]
def k0_dev9 (d0 : Dev nD) : Nat :=
  let c0_i32_111 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_110 : BitVec 32 := 16#32
  let v173 : BitVec 32 := Scalar.muli v9 c16_i32_110
  let v174 : BitVec 32 := Scalar.addi c0_i32_111 v173
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_112 : BitVec 32 := 4#32
  let v175 : BitVec 32 := Scalar.muli v5 c4_i32_112
  let v176 : BitVec 32 := Scalar.addi v174 v175
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_113 : BitVec 32 := 1#32
  let v177 : BitVec 32 := Scalar.muli v8 c1_i32_113
  let v178 : BitVec 32 := Scalar.addi v176 v177
  v178.toNat
def k0_off9 (d0 : Dev nD) : Fin 3 → Nat :=
  let c0_128 : Index := 0#32
  let c0_129 : Index := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_127 : BitVec 32 := 512#32
  let v195 : BitVec 32 := Scalar.muli v2 c512_i32_127
  let v196 : Index := Scalar.indexCast v195
  ![0, 0, v196.toNat]
def k0_off10 (d0 : Dev nD) : Fin 3 → Nat :=
  let c0_145 : Index := 0#32
  let c256_146 : Index := 256#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_144 : BitVec 32 := 512#32
  let v213 : BitVec 32 := Scalar.muli v2 c512_i32_144
  let v214 : Index := Scalar.indexCast v213
  ![0, 256, v214.toNat]
def k0_off11 (d0 : Dev nD) : Fin 3 → Nat :=
  let c0_162 : Index := 0#32
  let c512_163 : Index := 512#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_161 : BitVec 32 := 512#32
  let v231 : BitVec 32 := Scalar.muli v2 c512_i32_161
  let v232 : Index := Scalar.indexCast v231
  ![0, 512, v232.toNat]
def k0_off12 (d0 : Dev nD) : Fin 3 → Nat :=
  let c0_179 : Index := 0#32
  let c768_180 : Index := 768#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_178 : BitVec 32 := 512#32
  let v249 : BitVec 32 := Scalar.muli v2 c512_i32_178
  let v250 : Index := Scalar.indexCast v249
  ![0, 768, v250.toNat]
def k0_off13 (d0 : Dev nD) : Fin 3 → Nat :=
  let c0_196 : Index := 0#32
  let c1024_197 : Index := 1024#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_195 : BitVec 32 := 512#32
  let v267 : BitVec 32 := Scalar.muli v2 c512_i32_195
  let v268 : Index := Scalar.indexCast v267
  ![0, 1024, v268.toNat]
def k0_off14 (d0 : Dev nD) : Fin 3 → Nat :=
  let c0_213 : Index := 0#32
  let c1280_214 : Index := 1280#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_212 : BitVec 32 := 512#32
  let v285 : BitVec 32 := Scalar.muli v2 c512_i32_212
  let v286 : Index := Scalar.indexCast v285
  ![0, 1280, v286.toNat]
def k0_off15 (d0 : Dev nD) : Fin 3 → Nat :=
  let c0_230 : Index := 0#32
  let c1536_231 : Index := 1536#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_229 : BitVec 32 := 512#32
  let v303 : BitVec 32 := Scalar.muli v2 c512_i32_229
  let v304 : Index := Scalar.indexCast v303
  ![0, 1536, v304.toNat]
def k0_off16 (d0 : Dev nD) : Fin 3 → Nat :=
  let c0_247 : Index := 0#32
  let c1792_248 : Index := 1792#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c512_i32_246 : BitVec 32 := 512#32
  let v321 : BitVec 32 := Scalar.muli v2 c512_i32_246
  let v322 : Index := Scalar.indexCast v321
  ![0, 1792, v322.toNat]
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x2048x1024 : Shape := ⟨3, ![2, 2048, 1024]⟩
abbrev S_ : Shape := ⟨0, ![]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S_, .f32⟩
  | .hbm, ⟨2, _⟩ => ⟨S2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Chunks.lean ====
/-
# The kernel's text, chunk by chunk

Each device cuts its 2048 rows into eight chunks of 256 rows. The printed body is a straight line of operations in
twelve parts, the chunks spelled out with literal offsets; here a chunk's rows, its two row slices and its two
semaphores are functions of the chunk's number, the three stretches of operations a chunk takes part in are programs in
that number, and the body is shown to be the eight instances of each, one after the other.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.ChunkSwap

open Cert.KernelIdeal Cert.KernelIdeal.Gen
open Idealize.ShloMosaic
open Idealize.ShloMosaic.TcCoe
open Idealize.SL.Sem

variable {F : FTy → Type} [FloatOps F]

/-! ## A chunk's rows, slices and semaphores -/

/-- Where chunk `k` starts in a 2048 × 512 buffer. -/
abbrev rowAt (k : Fin 8) : Fin 2 → ℕ := ![256 * k.val, 0]

/-- Chunk `k`'s rows lie inside the buffer. -/
theorem rowAt_inb (k : Fin 8) : ∀ a, rowAt k a + S256x512.size a ≤ S2048x512.size a := by
  revert k; decide

/-- Chunk `k`'s rectangle: 256 whole rows. -/
abbrev rows (k : Fin 8) : Rect S2048x512 := Rect.unit (s := S2048x512) (rowAt k) S256x512.size (rowAt_inb k)

/-- A chunk's rows of a bf16 buffer are stored without splitting a packed pair of rows. -/
theorem rows_packed (k : Fin 8) : (rows k).PackedRows (EltTy.packing .bf16) :=
  match k with
  | 0 => packedbf16_S2048x512_S256x512_0_0
  | 1 => packedbf16_S2048x512_S256x512_256_0
  | 2 => packedbf16_S2048x512_S256x512_512_0
  | 3 => packedbf16_S2048x512_S256x512_768_0
  | 4 => packedbf16_S2048x512_S256x512_1024_0
  | 5 => packedbf16_S2048x512_S256x512_1280_0
  | 6 => packedbf16_S2048x512_S256x512_1536_0
  | 7 => packedbf16_S2048x512_S256x512_1792_0

/-- A chunk's rows of a bf16 buffer are whole machine words. -/
theorem rows_words (k : Fin 8) : (rows k).WholeWords (EltTy.packing .bf16) :=
  match k with
  | 0 => wordsbf16_S2048x512_S256x512_0_0
  | 1 => wordsbf16_S2048x512_S256x512_256_0
  | 2 => wordsbf16_S2048x512_S256x512_512_0
  | 3 => wordsbf16_S2048x512_S256x512_768_0
  | 4 => wordsbf16_S2048x512_S256x512_1024_0
  | 5 => wordsbf16_S2048x512_S256x512_1280_0
  | 6 => wordsbf16_S2048x512_S256x512_1536_0
  | 7 => wordsbf16_S2048x512_S256x512_1792_0

/-- The staged input block. -/
abbrev xM : Memref sig .tc .vmem S1x2048x1024 .f32 := Memref.whole cc0_stg0_0
/-- The staged result block. -/
abbrev oM : Memref sig .tc .vmem S2048x512 .f32 := Memref.whole cc0_stg1_0
/-- The buffer the copies leave from. -/
abbrev sM : Memref sig .tc .vmem S2048x512 .bf16 := Memref.whole cc0_scratch0
/-- The buffer the copies land in. -/
abbrev lM : Memref sig .tc .vmem S2048x512 .bf16 := Memref.whole cc0_scratch1

/-- Chunk `k` of the buffer the copies leave from. -/
abbrev sRow (k : Fin 8) : Memref sig .tc .vmem S256x512 .bf16 := sM.slice (rows k) (fun _ => rfl)
/-- Chunk `k` of the buffer the copies land in. -/
abbrev lRow (k : Fin 8) : Memref sig .tc .vmem S256x512 .bf16 := lM.slice (rows k) (fun _ => rfl)

/-- A chunk of the buffer the copies leave from begins and ends on machine words. -/
theorem sRow_exact (k : Fin 8) : (sRow k).view.WordExact :=
  (Memref.isWhole_whole cc0_scratch0).wordExact_slice rfl _ (rows_words k)
/-- So does a chunk of the buffer they land in. -/
theorem lRow_exact (k : Fin 8) : (lRow k).view.WordExact :=
  (Memref.isWhole_whole cc0_scratch1).wordExact_slice rfl _ (rows_words k)

/-- Semaphore `k` is one of an array of eight. -/
theorem one_inb (k : Fin 8) : ∀ a, (![k.val] : Fin 1 → ℕ) a + S1.size a ≤ S8.size a := by revert k; decide

/-- The semaphore that chunk `k`'s departure completes on. -/
abbrev depart (k : Fin 8) : DmaSem sig :=
  ((cc0_scratch2.slice (Rect.unit (s := S8) ![k.val] S1.size (one_inb k))).squeeze S_ squeezes_S1_S_).sem
/-- The semaphore that chunk `k`'s arrival completes on. -/
abbrev arrive (k : Fin 8) : DmaSem sig :=
  ((cc0_scratch3.slice (Rect.unit (s := S8) ![k.val] S1.size (one_inb k))).squeeze S_ squeezes_S1_S_).sem
/-- The semaphore the two devices of a pair meet on before anything is copied. -/
abbrev meet : Sem sig := (SemArray.scalar (sig.barrier 0 rfl) : Sems sig S_).sem

/-! ## The three stretches -/

/-- A 256 × 512 window of the input block rounded to bf16: what a chunk sends. -/
def rounded (v : Vec F S1x256x512 .f32) : FVec F S256x512 .bf16 :=
  shapeCast S256x512 (truncf .bf16 (shapeCast S256x512 v shapeCasts_S1x256x512_S256x512) bitsLt_bf16_f32) shapeCasts_S256x512_S256x512
/-- A window of the input block with a received chunk added: what a chunk contributes to the result. -/
def summed (v : Vec F S1x256x512 .f32) (u : Vec F S256x512 .bf16) : FVec F S256x512 .f32 :=
  addf (shapeCast S256x512 v shapeCasts_S1x256x512_S256x512) (extf .f32 u bitsLt_bf16_f32)

/-- A stretch of one device's kernel body. -/
abbrev Body (F : FTy → Type) : Type 1 := Prog (TpuEff nD τ sig (Elt F) Λ₀ .tc) PUnit

/-- Round a window of the input into chunk `k` of the departure buffer and start copying it to device `n`. -/
def sendChunk (k : Fin 8) (n : Dev nD) (off : Fin 3 → ℕ) (inb : ∀ a, off a + S1x256x512.size a ≤ S1x2048x1024.size a)
    (rest : Body F) : Body F :=
  Prog.op (.load xM (Rect.unit (s := S1x2048x1024) off S1x256x512.size inb).toLoadRect (View.loadsAt_vmem h_S1x256x512)) fun v =>
  Prog.op (.load sM (rows k).toLoadRect (View.loadsAt_vmem h_S256x512)) fun _ =>
  Prog.op (.store sM (rows k) (rounded v) Finset.univ
    (View.stores_vmem h_S256x512 ((Memref.isWhole_whole cc0_scratch0).storeExact_slice rfl _ (rows_packed k)) (fun _ => rfl)) (.inl rfl)) fun _ =>
  Prog.op (.enqueueDma (sRow k) (.remote (Dev.tc n) (lRow k) (.dma (depart k))) (.dma (arrive k)) (sRow_exact k) (lRow_exact k)
    ⟨⟨rfl, Or.inl rfl⟩, trivial⟩) fun _ => rest

/-- Wait for chunk `k` to arrive and store its sum with a window of the input into the result. -/
def addChunk (k : Fin 8) (off : Fin 3 → ℕ) (inb : ∀ a, off a + S1x256x512.size a ≤ S1x2048x1024.size a)
    (rest : Body F) : Body F :=
  Prog.op (.waitDma2 (arrive k) (sRow k) (lRow k) (sRow_exact k) (lRow_exact k)) fun _ =>
  Prog.op (.load xM (Rect.unit (s := S1x2048x1024) off S1x256x512.size inb).toLoadRect (View.loadsAt_vmem h_S1x256x512)) fun v =>
  Prog.op (.load lM (rows k).toLoadRect (View.loadsAt_vmem h_S256x512)) fun u =>
  Prog.op (.load oM (rows k).toLoadRect (View.loadsAt_vmem h_S256x512)) fun _ =>
  Prog.op (.store oM (rows k) (summed v u) Finset.univ (View.stores_vmem_bits_univ h_S256x512 rfl) (.inl rfl)) fun _ => rest

/-- Wait for chunk `k`'s departure to complete. -/
def goneChunk (k : Fin 8) (rest : Body F) : Body F :=
  Prog.op (.waitDma2 (depart k) (lRow k) (sRow k) (lRow_exact k) (sRow_exact k)) fun _ => rest

/-- All the chunks sent from device `d`, then `rest`. -/
def sendAll (d : Dev nD) (rest : Body F) : Body F :=
  sendChunk 0 ⟨k0_dev2 d, k0_dev2_lt d⟩ (k0_off1 d) (k0_off1_inb d) <|
  sendChunk 1 ⟨k0_dev3 d, k0_dev3_lt d⟩ (k0_off2 d) (k0_off2_inb d) <|
  sendChunk 2 ⟨k0_dev4 d, k0_dev4_lt d⟩ (k0_off3 d) (k0_off3_inb d) <|
  sendChunk 3 ⟨k0_dev5 d, k0_dev5_lt d⟩ (k0_off4 d) (k0_off4_inb d) <|
  sendChunk 4 ⟨k0_dev6 d, k0_dev6_lt d⟩ (k0_off5 d) (k0_off5_inb d) <|
  sendChunk 5 ⟨k0_dev7 d, k0_dev7_lt d⟩ (k0_off6 d) (k0_off6_inb d) <|
  sendChunk 6 ⟨k0_dev8 d, k0_dev8_lt d⟩ (k0_off7 d) (k0_off7_inb d) <|
  sendChunk 7 ⟨k0_dev9 d, k0_dev9_lt d⟩ (k0_off8 d) (k0_off8_inb d) rest

/-- All the chunks received and added on device `d`, then `rest`. -/
def addAll (d : Dev nD) (rest : Body F) : Body F :=
  addChunk 0 (k0_off9 d) (k0_off9_inb d) <| addChunk 1 (k0_off10 d) (k0_off10_inb d) <|
  addChunk 2 (k0_off11 d) (k0_off11_inb d) <| addChunk 3 (k0_off12 d) (k0_off12_inb d) <|
  addChunk 4 (k0_off13 d) (k0_off13_inb d) <| addChunk 5 (k0_off14 d) (k0_off14_inb d) <|
  addChunk 6 (k0_off15 d) (k0_off15_inb d) <| addChunk 7 (k0_off16 d) (k0_off16_inb d) rest

/-- All the departures waited for, then `rest`. -/
def goneAll (rest : Body F) : Body F :=
  goneChunk 0 <| goneChunk 1 <| goneChunk 2 <| goneChunk 3 <| goneChunk 4 <| goneChunk 5 <| goneChunk 6 <| goneChunk 7 rest

/-- The body by chunks: signal the partner, wait for its signal, send every chunk, add every chunk that arrives, wait
    for every departure. -/
def byChunks : Body F :=
  Prog.op .deviceId fun d =>
  Prog.op (.semSignal ((⟨k0_dev1 d, k0_dev1_lt d⟩ : Dev nD), .tc) meet ((1#32 : BitVec 32).toInt)) fun _ =>
  Prog.op (.semWait meet ((1#32 : BitVec 32).toInt)) fun _ =>
  sendAll d <| addAll d <| goneAll <| Prog.ret ⟨⟩

set_option maxRecDepth 65536 in
/-- The printed body is the body by chunks. -/
theorem body_byChunks :
    cc0_body (F := F) (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3
      = byChunks := rfl

end Cert.ChunkSwap

end
-- ==== Proof.Glue.lean ====
/-
# Buffers by chunks

A 2048 × 512 buffer is eight chunks of 256 rows. `glue` puts eight 256 × 512 pieces one under the other; reading a
chunk's rows of a glued buffer gives back its piece, what is written over a chunk's rows agrees there with any glued
buffer having that piece, and ownership of a buffer is ownership of its eight chunks.
-/
module

public import proofs.«01_k».proof.Proof.Chunks
public import Idealize.ShloMosaic.Lib.Rounds

@[expose] public section

noncomputable section

namespace Cert.ChunkSwap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Which chunk a row is in -/

/-- The chunk a row belongs to. -/
def chunkOf (i : S2048x512.Idx) : Fin 8 := ⟨(i 0).val / 256, by have : (i 0).val < 2048 := (i 0).isLt; omega⟩

/-- Where in its chunk an element is. -/
def inChunk (i : S2048x512.Idx) : S256x512.Idx := fun a =>
  ⟨![(i 0).val % 256, (i 1).val] a, by
    have h1 : (i 1).val < 512 := (i 1).isLt
    fin_cases a
    · show (i 0).val % 256 < 256; omega
    · exact h1⟩

/-- An element is among chunk `k`'s rows exactly when `k` is its chunk. -/
theorem mem_rows (i : S2048x512.Idx) (k : Fin 8) : i ∈ (rows k).set ↔ chunkOf i = k := by
  rw [Rect.mem_set_unit]
  have h0 : (i 0).val < 2048 := (i 0).isLt
  have h1 : (i 1).val < 512 := (i 1).isLt
  constructor
  · intro h
    have h' := h 0
    have ha : 256 * k.val ≤ (i 0).val := h'.1
    have hb : (i 0).val < 256 * k.val + 256 := h'.2
    refine Fin.ext ?_
    show (i 0).val / 256 = k.val
    omega
  · rintro rfl a
    fin_cases a
    · show 256 * ((i 0).val / 256) ≤ (i 0).val ∧ (i 0).val < 256 * ((i 0).val / 256) + 256
      omega
    · show 0 ≤ (i 1).val ∧ (i 1).val < 0 + 512
      omega

/-- The elements of chunk `k` have `k` for their chunk. -/
theorem chunkOf_emb (k : Fin 8) (j : S256x512.Idx) : chunkOf ((rows k).emb j) = k := by
  refine Fin.ext ?_
  have h0 : (j 0).val < 256 := (j 0).isLt
  show (256 * k.val + 1 * (j 0).val) / 256 = k.val
  omega

/-- An element of a chunk, placed in the buffer, is at the same place of its chunk. -/
theorem inChunk_emb (k : Fin 8) (j : S256x512.Idx) : inChunk ((rows k).emb j) = j := by
  have h0 : (j 0).val < 256 := (j 0).isLt
  funext a
  refine Fin.ext ?_
  fin_cases a
  · show (256 * k.val + 1 * (j 0).val) % 256 = (j 0).val
    omega
  · show 0 + 1 * (j 1).val = (j 1).val
    omega

/-- Different chunks share no element. -/
theorem rows_disjoint {k k' : Fin 8} (h : k ≠ k') : Disjoint (rows k).set (rows k').set :=
  Finset.disjoint_left.mpr fun i hi hi' => h (((mem_rows i k).mp hi).symm.trans ((mem_rows i k').mp hi'))

/-- Every element is in some chunk. -/
theorem rows_cover : Finset.univ.biUnion (fun k : Fin 8 => (rows k).set) = (Finset.univ : Finset S2048x512.Idx) :=
  Finset.eq_univ_of_forall fun i => Finset.mem_biUnion.mpr ⟨chunkOf i, Finset.mem_univ _, (mem_rows i _).mpr rfl⟩

/-! ## Gluing eight pieces -/

/-- Eight 256 × 512 pieces one under the other. -/
def glue {α : Type} (p : Fin 8 → S256x512.Idx → α) : S2048x512.Idx → α := fun i => p (chunkOf i) (inChunk i)

/-- Chunk `k` of eight glued pieces is piece `k`. -/
theorem glue_emb {α : Type} (p : Fin 8 → S256x512.Idx → α) (k : Fin 8) (j : S256x512.Idx) : glue p ((rows k).emb j) = p k j := by
  unfold glue; rw [chunkOf_emb, inChunk_emb]

/-- What is written through a view agrees, on the elements it shows, with any contents that read the same through it. -/
theorem write_agrees {Val : EltTy → Type} {κ : Kind} {sp : Space} {s : Shape} {e : EltTy} (v : View sig κ sp s e) (f g : v.ty.Contents Val)
    (w : s.Idx → Val e) (h : v.read Val g = w) : ∀ i ∈ v.set, v.write Val f w Finset.univ i = g i := by
  intro i hi
  rw [← h, View.write_read_eq_piecewise, View.setOn_univ, Finset.piecewise_eq_of_mem _ _ _ hi]

/-! ## Ownership by chunks -/

/-- A list's worth of assertions. -/
def each {M : Type} [URA M] (Φ : Fin 8 → sProp M) : List (Fin 8) → sProp M
  | [] => iprop(emp)
  | k :: ks => iprop(Φ k ∗ each Φ ks)

/-- The chunks, in the order the kernel takes them. -/
abbrev chunks : List (Fin 8) := [0, 1, 2, 3, 4, 5, 6, 7]

/-- One assertion for each chunk: along the list, or over the index. -/
theorem each_chunks {M : Type} [URA M] (Φ : Fin 8 → sProp M) : each Φ chunks = bigSep Finset.univ Φ := by
  have h : ∀ l : List (Fin 8), l.Nodup → each Φ l = bigSep l.toFinset Φ := by
    intro l
    induction l with
    | nil => intro _; rw [List.toFinset_nil, bigSep_empty]; rfl
    | cons k ks ih =>
      intro hn
      rw [List.toFinset_cons, bigSep_insert (by simpa using (List.nodup_cons.mp hn).1), ← ih (List.nodup_cons.mp hn).2]
      rfl
  rw [h chunks (by decide)]
  exact congrArg (fun s => bigSep s Φ) (by decide)

end Cert.ChunkSwap

end
-- ==== Proof.Protocol.lean ====
/-
# Pairs of devices, what moves between them, and the schedule it moves on

Devices `c` and `peer c` exchange halves of their blocks. This module has the pairing, what each buffer ends up holding,
the body with its device numbers and offsets in closed form, and the schedule of the semaphores: each device has one
semaphore to meet its partner on, and for each chunk one that a departure and one that an arrival completes on. Every
one of them is signalled once.
-/
module

public import proofs.«01_k».proof.Proof.Glue

@[expose] public section

noncomputable section

namespace Cert.ChunkSwap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Pairs -/

/-- The device a device exchanges with: same place in the other half of the mesh. -/
def peer (c : Dev nD) : Dev nD := ⟨(c.val + 16) % 32, Nat.mod_lt _ (by omega)⟩

/-- A partner's partner is the device itself. -/
theorem peer_peer (c : Dev nD) : peer (peer c) = c := by
  have hc : c.val < 32 := c.isLt
  refine Fin.ext ?_
  show ((c.val + 16) % 32 + 16) % 32 = c.val
  omega

/-- Exchanging the devices of every pair. -/
def swap : Dev nD ≃ Dev nD := ⟨peer, peer, peer_peer, peer_peer⟩

/-- Partners are in different halves of the mesh. -/
theorem peer_half (c : Dev nD) : (peer c).val / 16 = 1 - c.val / 16 := by
  have hc : c.val < 32 := c.isLt
  show (c.val + 16) % 32 / 16 = 1 - c.val / 16
  omega

/-- The kernel's number for its partner is `peer`. -/
theorem peer_of (c : Dev nD) (n : ℕ) (hn : n < nD) (h : n = (4 * ((c.val / 4) % 4) + (c.val % 4) + 16) - 16 * (c.val / 16)) :
    (⟨n, hn⟩ : Dev nD) = peer c := by
  have hc : c.val < 32 := c.isLt
  refine Fin.ext ?_
  show n = (c.val + 16) % 32
  omega

/-! ## The body in closed form -/

/-- Where the window of chunk `k` that device `c` sends starts. -/
def offSend (c : Dev nD) (k : Fin 8) : Fin 3 → ℕ := ![0, 256 * k.val, 512 - 512 * (c.val / 16)]
/-- Where the window of chunk `k` that device `c` keeps starts. -/
def offKeep (c : Dev nD) (k : Fin 8) : Fin 3 → ℕ := ![0, 256 * k.val, 512 * (c.val / 16)]

/-- The window sent lies inside the block. -/
theorem offSend_inb (c : Dev nD) (k : Fin 8) : ∀ a, offSend c k a + S1x256x512.size a ≤ S1x2048x1024.size a := by
  have hk : k.val < 8 := k.isLt
  intro a; fin_cases a
  · show 0 + 1 ≤ 1; omega
  · show 256 * k.val + 256 ≤ 2048; omega
  · show 512 - 512 * (c.val / 16) + 512 ≤ 1024; omega
/-- The window kept lies inside the block. -/
theorem offKeep_inb (c : Dev nD) (k : Fin 8) : ∀ a, offKeep c k a + S1x256x512.size a ≤ S1x2048x1024.size a := by
  have hk : k.val < 8 := k.isLt
  have hc : c.val < 32 := c.isLt
  intro a; fin_cases a
  · show 0 + 1 ≤ 1; omega
  · show 256 * k.val + 256 ≤ 2048; omega
  · show 512 * (c.val / 16) + 512 ≤ 1024; omega

/-- Sending a chunk depends only on the device it goes to, its offset and what follows. -/
theorem sendChunk_congr (k : Fin 8) {n n' : Dev nD} {off off' : Fin 3 → ℕ} {inb inb'} {r r' : Body F} (hn : n = n') (ho : off = off') (hr : r = r') :
    sendChunk k n off inb r = sendChunk k n' off' inb' r' := by subst hn ho hr; rfl
/-- Adding a chunk depends only on its offset and what follows. -/
theorem addChunk_congr (k : Fin 8) {off off' : Fin 3 → ℕ} {inb inb'} {r r' : Body F} (ho : off = off') (hr : r = r') :
    addChunk k off inb r = addChunk k off' inb' r' := by subst ho hr; rfl

/-- Sending, over a list of chunks. -/
def sending (c : Dev nD) (ks : List (Fin 8)) (rest : Body F) : Body F :=
  ks.foldr (fun k r => sendChunk k (peer c) (offSend c k) (offSend_inb c k) r) rest
/-- Adding, over a list of chunks. -/
def adding (c : Dev nD) (ks : List (Fin 8)) (rest : Body F) : Body F :=
  ks.foldr (fun k r => addChunk k (offKeep c k) (offKeep_inb c k) r) rest
/-- Waiting for departures, over a list of chunks. -/
def leaving (ks : List (Fin 8)) (rest : Body F) : Body F := ks.foldr (fun k r => goneChunk k r) rest

/-- The kernel's sends are those of the eight chunks to the partner, at the closed-form offsets. -/
theorem sendAll_eq (c : Dev nD) (rest : Body F) : sendAll c rest = sending c chunks rest :=
  sendChunk_congr 0 (peer_of c _ _ (k0_dev2_eq c)) (k0_off1_eq c) <| sendChunk_congr 1 (peer_of c _ _ (k0_dev3_eq c)) (k0_off2_eq c) <|
  sendChunk_congr 2 (peer_of c _ _ (k0_dev4_eq c)) (k0_off3_eq c) <| sendChunk_congr 3 (peer_of c _ _ (k0_dev5_eq c)) (k0_off4_eq c) <|
  sendChunk_congr 4 (peer_of c _ _ (k0_dev6_eq c)) (k0_off5_eq c) <| sendChunk_congr 5 (peer_of c _ _ (k0_dev7_eq c)) (k0_off6_eq c) <|
  sendChunk_congr 6 (peer_of c _ _ (k0_dev8_eq c)) (k0_off7_eq c) <| sendChunk_congr 7 (peer_of c _ _ (k0_dev9_eq c)) (k0_off8_eq c) rfl

/-- Its additions are those of the eight chunks, at the closed-form offsets. -/
theorem addAll_eq (c : Dev nD) (rest : Body F) : addAll c rest = adding c chunks rest :=
  addChunk_congr 0 (k0_off9_eq c) <| addChunk_congr 1 (k0_off10_eq c) <| addChunk_congr 2 (k0_off11_eq c) <| addChunk_congr 3 (k0_off12_eq c) <|
  addChunk_congr 4 (k0_off13_eq c) <| addChunk_congr 5 (k0_off14_eq c) <| addChunk_congr 6 (k0_off15_eq c) <| addChunk_congr 7 (k0_off16_eq c) rfl

/-- Its last waits are those for the eight departures. -/
theorem goneAll_eq (rest : Body F) : goneAll rest = leaving chunks rest := rfl

/-! ## Resources -/

/-- The ghost state of the exchange. -/
abbrev UB : Type := URounds (GSem nD τ sig) Unit
/-- The ghost state of the launch's staging, and that of the exchange. -/
abbrev UU : Type := UR sig nD τ × UB

local notation "𝕄" => MT nD τ sig Unit (Elt F) ℕ UU ℕ

/-- The staging's part of it. -/
abbrev EP : Emb (UR sig nD τ) (MT nD τ sig Unit (Elt F) ℕ UU ℕ) := embL
/-- The exchange's part of it. -/
abbrev ER : Emb UB (MT nD τ sig Unit (Elt F) ℕ UU ℕ) := embR

variable (m : (ℓ : Loc nD τ sig) → Buf (Elt F) ℓ) (ρ : Dev nD → PrngReg)

/-- The memory at launch: any contents, every counter zero. -/
def s₀ : MemSt nD τ sig (Elt F) := ⟨m, fun _ => 0, ρ⟩

/-! ## Contents -/

/-- The block device `c` has staged. -/
def xstg (c : Dev nD) : (cc0_stg0_0 : Ref sig .tc).ty.Contents (Elt F) :=
  (win0_0.blk (0 : Fin 1)).view.read (Elt F) (m ((c : Thread nD τ).loc main_arg0))

/-- A 256 × 512 window of the block device `c` has staged. -/
def window (c : Dev nD) (off : Fin 3 → ℕ) (inb : ∀ a, off a + S1x256x512.size a ≤ S1x2048x1024.size a) : Vec F S1x256x512 .f32 :=
  xM.view.readAt (Elt F) (Rect.unit (s := S1x2048x1024) off S1x256x512.size inb).toLoadRect (xstg m c)

/-- What chunk `k` carries from device `c`. -/
def carried (c : Dev nD) (k : Fin 8) : S256x512.Idx → Elt F .bf16 := rounded (window m c (offSend c k) (offSend_inb c k))
/-- What chunk `k` of device `c`'s result is. -/
def total (c : Dev nD) (k : Fin 8) : S256x512.Idx → Elt F .f32 :=
  summed (window m c (offKeep c k) (offKeep_inb c k)) (carried m (peer c) k)

/-- What the departure buffer holds when all is sent. -/
def sent (c : Dev nD) : (cc0_scratch0 : Ref sig .tc).ty.Contents (Elt F) := glue (carried m c)
/-- What the landing buffer holds when all has arrived. -/
def landed (c : Dev nD) : (cc0_scratch1 : Ref sig .tc).ty.Contents (Elt F) := glue (carried m (peer c))
/-- What the result block holds when all is added. -/
def outAt (c : Dev nD) : (cc0_stg1_0 : Ref sig .tc).ty.Contents (Elt F) := glue (total m c)

omit [FloatOps F] in
/-- Chunk `k` of a departure buffer glued from pieces reads as piece `k`. -/
theorem read_rows_sent (k : Fin 8) (p : Fin 8 → S256x512.Idx → Elt F .bf16) : (sRow k).view.read (Elt F) (glue p) = p k :=
  funext fun j => glue_emb p k j
omit [FloatOps F] in
/-- The same of a landing buffer. -/
theorem read_rows_landed (k : Fin 8) (p : Fin 8 → S256x512.Idx → Elt F .bf16) : (lRow k).view.read (Elt F) (glue p) = p k :=
  funext fun j => glue_emb p k j
omit [FloatOps F] in
/-- The same of a result block. -/
theorem read_rows_out (k : Fin 8) (p : Fin 8 → S256x512.Idx → Elt F .f32) : (oM.access (rows k)).read (Elt F) (glue p) = p k :=
  funext fun j => glue_emb p k j

/-! ## Ownership of a chunk -/

/-- Chunk `k` of device `c`'s departure buffer, at contents `f`. -/
def sOwn (c : Dev nD) (k : Fin 8) (f : (cc0_scratch0 : Ref sig .tc).ty.Contents (Elt F)) : sProp 𝕄 :=
  (sRow k).view.loc (c : Thread nD τ) ↦[(sRow k).view.set]{fullShare} f
/-- Chunk `k` of device `c`'s landing buffer, at contents `f`. -/
def lOwn (c : Dev nD) (k : Fin 8) (f : (cc0_scratch1 : Ref sig .tc).ty.Contents (Elt F)) : sProp 𝕄 :=
  (lRow k).view.loc (c : Thread nD τ) ↦[(lRow k).view.set]{fullShare} f
/-- Chunk `k` of device `c`'s result, at contents `f`. -/
def oOwn (c : Dev nD) (k : Fin 8) (f : (cc0_stg1_0 : Ref sig .tc).ty.Contents (Elt F)) : sProp 𝕄 :=
  (oM.access (rows k)).loc (c : Thread nD τ) ↦[(oM.access (rows k)).set]{fullShare} f

/-- A chunk of a departure buffer can be handed over at a semaphore. -/
instance sOwn_storable (c : Dev nD) (k) (f) : BI.Storable (upEmb : UEmb _ 𝕄) (sOwn (F := F) c k f) := by unfold sOwn; infer_instance
/-- So can a chunk of a landing buffer. -/
instance lOwn_storable (c : Dev nD) (k) (f) : BI.Storable (upEmb : UEmb _ 𝕄) (lOwn (F := F) c k f) := by unfold lOwn; infer_instance

/-- A whole departure buffer is its chunks. -/
theorem s_rows (c : Dev nD) (f : (cc0_scratch0 : Ref sig .tc).ty.Contents (Elt F)) :
    ((((c : Thread nD τ).loc cc0_scratch0) ↦{fullShare} f) : sProp 𝕄) = each (fun k => sOwn c k f) chunks := by
  rw [each_chunks]
  refine Eq.trans ?_ (pointsTo_biUnion (ℓ := (c : Thread nD τ).loc cc0_scratch0) Finset.univ (fun k : Fin 8 => (rows k).set) fun k _ k' _ h => rows_disjoint h)
    |>.trans (bigSep_congr fun k _ => by unfold sOwn; rw [show (sRow k).view.set = (rows k).set from View.set_slice_whole _ _])
  exact congrArg (fun S => pointsTo ((c : Thread nD τ).loc cc0_scratch0) S fullShare f) rows_cover.symm
/-- A whole landing buffer is its chunks. -/
theorem l_rows (c : Dev nD) (f : (cc0_scratch1 : Ref sig .tc).ty.Contents (Elt F)) :
    ((((c : Thread nD τ).loc cc0_scratch1) ↦{fullShare} f) : sProp 𝕄) = each (fun k => lOwn c k f) chunks := by
  rw [each_chunks]
  refine Eq.trans ?_ (pointsTo_biUnion (ℓ := (c : Thread nD τ).loc cc0_scratch1) Finset.univ (fun k : Fin 8 => (rows k).set) fun k _ k' _ h => rows_disjoint h)
    |>.trans (bigSep_congr fun k _ => by unfold lOwn; rw [show (lRow k).view.set = (rows k).set from View.set_slice_whole _ _])
  exact congrArg (fun S => pointsTo ((c : Thread nD τ).loc cc0_scratch1) S fullShare f) rows_cover.symm
/-- A whole result block is its chunks. -/
theorem o_rows (c : Dev nD) (f : (cc0_stg1_0 : Ref sig .tc).ty.Contents (Elt F)) :
    ((((c : Thread nD τ).loc cc0_stg1_0) ↦{fullShare} f) : sProp 𝕄) = each (fun k => oOwn c k f) chunks := by
  rw [each_chunks]
  refine Eq.trans ?_ (pointsTo_biUnion (ℓ := (c : Thread nD τ).loc cc0_stg1_0) Finset.univ (fun k : Fin 8 => (rows k).set) fun k _ k' _ h => rows_disjoint h)
    |>.trans (bigSep_congr fun k _ => by unfold oOwn; rw [show (oM.access (rows k)).set = (rows k).set from View.set_slice_whole _ _])
  exact congrArg (fun S => pointsTo ((c : Thread nD τ).loc cc0_stg1_0) S fullShare f) rows_cover.symm

/-! ## The semaphores -/

/-- The semaphores of a device's copies: departures, then arrivals. -/
abbrev Own : Type := Fin 8 ⊕ Fin 8
/-- All of a device's semaphores: the one to meet on, and those of its copies. -/
abbrev Port : Type := Unit ⊕ Own

/-- Which semaphore each of the copies' is. -/
abbrev osem : Own → SemLoc sig
  | .inl k => .dma (depart k)
  | .inr k => .dma (arrive k)
/-- Which semaphore each of them is. -/
abbrev csem : Port → SemLoc sig
  | .inl _ => .reg meet
  | .inr o => osem o

/-- The copies' semaphores are distinct and not the staging's. -/
theorem ownSemFacts : Pipeline.OwnSemFacts cfg0.spec osem := by decide

/-- A device's semaphores are distinct. -/
theorem csem_inj : Function.Injective csem := by decide

/-- A semaphore of device `c`. -/
abbrev cell (c : Dev nD) (p : Port) : GSem nD τ sig := ((c : Thread nD τ), csem p)
/-- The semaphore device `c` meets its partner on. -/
abbrev meetCell (c : Dev nD) : GSem nD τ sig := cell c (.inl ())
/-- The semaphore chunk `k`'s departure from device `c` completes on. -/
abbrev goneCell (c : Dev nD) (k : Fin 8) : GSem nD τ sig := cell c (.inr (.inl k))
/-- The semaphore chunk `k`'s arrival at device `c` completes on. -/
abbrev hereCell (c : Dev nD) (k : Fin 8) : GSem nD τ sig := cell c (.inr (.inr k))

/-- Which of a device's semaphores a semaphore is. -/
def portOf (s : SemLoc sig) : Option Port := Function.partialInv csem s
/-- A device's semaphore is known for the one it is. -/
theorem portOf_csem (p : Port) : portOf (csem p) = some p := Function.partialInv_left csem_inj p
/-- What is known for one of a device's semaphores is that one. -/
theorem portOf_some {s : SemLoc sig} {p : Port} (h : portOf s = some p) : s = csem p := ((Function.partialInv_of_injective csem_inj _ _).mp h).symm

/-- The semaphores of all devices are distinct. -/
theorem cell_inj : Function.Injective (fun cp : Dev nD × Port => cell cp.1 cp.2) := by
  rintro ⟨c, p⟩ ⟨c', p'⟩ h
  have h1 : c = c' := congrArg (fun g : GSem nD τ sig => g.1.1) h
  have h2 : p = p' := csem_inj (congrArg Prod.snd h)
  rw [h1, h2]

/-- What a chunk's transfer adds to a semaphore. -/
abbrev N : ℕ := (lRow 0).view.dmaCredit
/-- A chunk's transfer adds something. -/
theorem N_pos : 0 < N := View.dmaCredit_pos _ (by decide)

/-- Every chunk's landing adds the same. -/
theorem amount_row (k : Fin 8) (sm : DmaSem sig) : (lRow k).view.amount (.dma sm) = N := rfl

/-! ## The schedule -/

/-- What completing a semaphore hands its device: the partner's landing buffer, a chunk that has left, a chunk that has arrived. -/
def handed (c : Dev nD) : Port → sProp 𝕄
  | .inl _ => iprop(∃ f, each (fun k => lOwn (peer c) k f) chunks)
  | .inr (.inl k) => sOwn c k (sent m c)
  | .inr (.inr k) => lOwn c k (landed m c)

/-- What can be handed over chunk by chunk can be handed over for a list of chunks. -/
instance each_storable (Φ : Fin 8 → sProp 𝕄) [∀ k, BI.Storable (upEmb : UEmb _ 𝕄) (Φ k)] (l : List (Fin 8)) :
    BI.Storable (upEmb : UEmb _ 𝕄) (each Φ l) := by
  induction l with
  | nil => unfold each; infer_instance
  | cons k ks ih => unfold each; infer_instance

/-- What a semaphore's completion hands its device can be handed over. -/
instance handed_storable (c : Dev nD) (p : Port) : BI.Storable (upEmb : UEmb _ 𝕄) (handed m c p) := by
  rcases p with _ | _ | _ <;> unfold handed <;> infer_instance

/-- How much completes a semaphore. -/
def worth : Port → ℕ
  | .inl _ => 1
  | .inr _ => N
/-- Every semaphore needs something to complete it. -/
theorem worth_pos (p : Port) : 0 < worth p := by rcases p with _ | _; exacts [Nat.one_pos, N_pos]

/-- One round, one duty for each of a device's semaphores. -/
def swapRd : Rounds.Schedule (GSem nD τ sig) Unit 𝕄 where
  duties g r := if r = 0 ∧ g.1.2 = .tc ∧ (portOf g.2).isSome then {()} else ∅
  unitless _ := False
  amount g _ _ := ((portOf g.2).map worth).getD 1
  payload g _ _ := ((portOf g.2).map (handed m g.1.1)).getD iprop(emp)
  amount_pos g _ _ _ := by
    rcases portOf g.2 with _ | p
    · exact Nat.one_pos
    · exact worth_pos p

/-- Whatever the schedule hands over can be handed over. -/
instance swapRd_payload_storable (g : GSem nD τ sig) (r : ℕ) (d : Unit) :
    BI.Storable (upEmb : UEmb _ 𝕄) ((swapRd m).payload g r d) := by
  show BI.Storable upEmb (((portOf g.2).map (handed m g.1.1)).getD iprop(emp))
  rcases portOf g.2 with _ | p
  · show BI.Storable upEmb iprop(emp); infer_instance
  · exact handed_storable m g.1.1 p

section Sched
variable (c : Dev nD) (p : Port)

/-- Each of a device's semaphores has one duty in its first round. -/
theorem duties_cell : (swapRd m).duties (cell c p) 0 = {()} := by
  dsimp only [swapRd]; rw [portOf_csem]; exact if_pos ⟨rfl, rfl, rfl⟩
/-- No semaphore has a duty in a later round. -/
theorem duties_later (g : GSem nD τ sig) : ∀ r, 1 ≤ r → (swapRd m).duties g r = ∅ :=
  fun r hr => by dsimp only [swapRd]; rw [if_neg fun h => by omega]
/-- That duty adds what completes the semaphore. -/
theorem amount_cell (d : Unit) : (swapRd m).amount (cell c p) 0 d = worth p := by
  dsimp only [swapRd]; rw [portOf_csem]; rfl
/-- It hands over what the semaphore's completion is to hand over. -/
theorem payload_cell (d : Unit) : (swapRd m).payload (cell c p) 0 d = handed m c p := by
  dsimp only [swapRd]; rw [portOf_csem]; rfl
/-- A wait expects what completes the semaphore. -/
theorem expect_cell : (swapRd m).expect (cell c p) 0 = worth p := by
  unfold Schedule.expect Schedule.amountOf; rw [duties_cell, Finset.sum_singleton, amount_cell]
/-- What the one wait on a semaphore brings. -/
theorem rest_cell : bigSep ((swapRd m).duties (cell c p) 0 \ ∅) (fun d => (swapRd m).payload (cell c p) 0 d) = handed m c p := by
  rw [Finset.sdiff_empty, duties_cell, bigSep_singleton, payload_cell]

end Sched

/-! ## What a device owes -/

/-- The arrivals at its partner a device still owes, chunk by chunk. -/
def due (c : Dev nD) : List (Fin 8) → CellTallies nD τ sig Unit
  | [] => 0
  | k :: ks => due c ks + tallyAt (hereCell (peer c) k) () N

/-- At launch: every arrival, and the meeting signal. -/
def O₀ (c : Dev nD) : CellTallies nD τ sig Unit := due c chunks + tallyAt (meetCell (peer c)) () 1

/-- A core's semaphores are ordered; the others have no part in it. -/
def L (g : GSem nD τ sig) : Finset Unit := if g.1.2 = .tc then {()} else ∅
/-- Meeting first, arrivals after it. -/
def lv (g : GSem nD τ sig) (_ : Unit) : ℕ := match portOf g.2 with
  | some (.inl _) => 1
  | some (.inr (.inr _)) => 2
  | _ => 0

/-- A semaphore of something other than a core has no place in the order. -/
theorem L_of_ne (g : GSem nD τ sig) (h : g.1.2 ≠ .tc) : L g = ∅ := if_neg h
/-- A core's semaphore has one. -/
theorem L_tc (c : Dev nD) (sm : SemLoc sig) : L ((c : Thread nD τ), sm) = {()} := if_pos rfl
/-- The meeting is at level 1. -/
theorem lv_meet (c : Dev nD) : lv (meetCell c) () = 1 := by unfold lv; rw [show portOf (meetCell c).2 = some (.inl ()) from portOf_csem (.inl ())]
/-- An arrival is at level 2. -/
theorem lv_here (c : Dev nD) (k : Fin 8) : lv (hereCell c k) () = 2 := by unfold lv; rw [show portOf (hereCell c k).2 = some (.inr (.inr k)) from portOf_csem (.inr (.inr k))]

/-- What is owed along a list of chunks is owed to arrivals at the partner. -/
theorem due_pos {c : Dev nD} {ks : List (Fin 8)} {g : GSem nD τ sig} {u : Unit} (h : 0 < due c ks g u) : ∃ k, g = hereCell (peer c) k := by
  induction ks with
  | nil => exact absurd h (Nat.lt_irrefl 0)
  | cons k ks ih =>
    rw [due, Pi.add_apply, Finsupp.add_apply, tallyAt_apply] at h
    by_cases hg : g = hereCell (peer c) k ∧ u = ()
    · exact ⟨k, hg.1⟩
    · rw [if_neg hg, Nat.add_zero] at h; exact ih h

/-- What is owed at launch is owed to arrivals at the partner or to the meeting with it. -/
theorem O₀_pos {c : Dev nD} {g : GSem nD τ sig} {u : Unit} (h : 0 < O₀ c g u) : (∃ k, g = hereCell (peer c) k) ∨ g = meetCell (peer c) := by
  unfold O₀ at h
  rw [Pi.add_apply, Finsupp.add_apply, tallyAt_apply] at h
  by_cases hg : g = meetCell (peer c) ∧ u = ()
  · exact Or.inr hg.1
  · rw [if_neg hg, Nat.add_zero] at h; exact Or.inl (due_pos h)

/-- A device may wait for a block to be staged while it owes everything or nothing. -/
theorem mayWait_stage (c : Dev nD) (q : SemLoc sig) (hq : ∀ p, q ≠ csem p) (O : CellTallies nD τ sig Unit) (hO : O = O₀ c ∨ O = 0) :
    (levAts L lv : sProp 𝕄) ⊢ MayWait (c : Thread nD τ) q () O := by
  have hq0 : lv ((c : Thread nD τ), q) () = 0 := by
    unfold lv
    rcases h : portOf q with _ | p
    · rfl
    · exact absurd (portOf_some h) (hq p)
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | rfl <;> (rw [L_tc]; exact Finset.mem_singleton_self _))
      (fun p hp => by rw [Finset.mem_singleton.mp hp]; exact hq0.le)
      (fun g u hg => by
        rcases O₀_pos hg with ⟨k, rfl⟩ | rfl
        · rw [show u = () from rfl, lv_here]; decide
        · rw [show u = () from rfl, lv_meet]; decide)
  · rw [MayWait_zero]; iintro -; iempintro

/-- A device may wait for its partner's signal while it owes arrivals only. -/
theorem mayWait_meet (c : Dev nD) : (levAts L lv : sProp 𝕄) ⊢ MayWait (c : Thread nD τ) (.reg meet) () (due c chunks) :=
  MayOwe.of_cut (L := L) (lev := lv) 1 (fun p hp => by rw [Finset.mem_singleton.mp hp, L_tc]; exact Finset.mem_singleton_self _)
    (fun g u hg => by obtain ⟨k, rfl⟩ := due_pos hg; rw [L_tc]; exact Finset.mem_singleton_self _)
    (fun p hp => by rw [Finset.mem_singleton.mp hp]; exact (lv_meet c).le)
    (fun g u hg => by obtain ⟨k, rfl⟩ := due_pos hg; rw [show u = () from rfl, lv_here]; decide)

end Cert.ChunkSwap

end
-- ==== Proof.Steps.lean ====
/-
# One chunk's steps, and all the chunks'

What a chunk needs and leaves in each of the three stretches of the body, and the stretches by induction on the list of chunks.
-/
module

public import proofs.«01_k».proof.Proof.Protocol

@[expose] public section

noncomputable section

namespace Cert.ChunkSwap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- No loop of the body needs a bound. -/
abbrev 𝒱₀ : Variants := Variants.none

/-! ## What everyone knows -/

/-- Every semaphore of every device follows the schedule, and is in its first round. -/
def records (K : Dev nD × Port → ℕ) : sProp 𝕄 :=
  iprop((bigSep Finset.univ fun cp : Dev nD × Port => cellInv ER (swapRd m) (K cp) (cell cp.1 cp.2))
    ∗ bigSep Finset.univ fun cp : Dev nD × Port => reached ER (cell cp.1 cp.2) 0)

/-- The common knowledge can be used again and again. -/
instance records_persistent (K : Dev nD × Port → ℕ) : BI.Persistent (records m K) := by unfold records; infer_instance

/-- The common knowledge includes the schedule of any one semaphore. -/
theorem inv_at (K : Dev nD × Port → ℕ) (c : Dev nD) (p : Port) : records m K ⊢ cellInv ER (swapRd m) (K (c, p)) (cell c p) :=
  sep_elim_left.trans (bigSep_elim (Φ := fun cp : Dev nD × Port => (cellInv ER (swapRd m) (K cp) (cell cp.1 cp.2) : sProp 𝕄)) (Finset.mem_univ (c, p)))
/-- The common knowledge includes that any one semaphore is in its first round. -/
theorem reached_at (K : Dev nD × Port → ℕ) (c : Dev nD) (p : Port) : records m K ⊢ reached ER (cell c p) 0 :=
  sep_elim_right.trans (bigSep_elim (Φ := fun cp : Dev nD × Port => (reached ER (cell cp.1 cp.2) 0 : sProp 𝕄)) (Finset.mem_univ (c, p)))

/-- What a device still owes, whatever it has waited for. -/
def owing (c : Dev nD) (O : CellTallies nD τ sig Unit) : sProp 𝕄 := iprop(∃ W, owes (c : Thread nD τ) O W)

/-- The staged block of device `c`. -/
def xOwn (c : Dev nD) : sProp 𝕄 := ((c : Thread nD τ).loc cc0_stg0_0) ↦{fullShare} xstg m c

variable (K : Dev nD × Port → ℕ)

/-! ## Sending -/

/-- What chunk `k` needs to be sent: its rows of both buffers, and the right to complete the departure and the arrival. -/
def toSend (c : Dev nD) (k : Fin 8) : sProp 𝕄 :=
  iprop((∃ f, sOwn c k f) ∗ (∃ f, lOwn (peer c) k f) ∗ dutyTok ER (goneCell c k) 0 () ∗ dutyTok ER (hereCell (peer c) k) 0 ())
/-- What sending it leaves: the claim on its departure. -/
def onItsWay (c : Dev nD) (k : Fin 8) : sProp 𝕄 := cred (tallyAt (goneCell c k) () N)

/-- Storing what a chunk carries puts its rows at their final contents. -/
theorem s_stored (c : Dev nD) (k : Fin 8) (f : (cc0_scratch0 : Ref sig .tc).ty.Contents (Elt F)) :
    (((sM.access (rows k)).loc (c : Thread nD τ) ↦[(sM.access (rows k)).set]{fullShare} (sM.access (rows k)).write (Elt F) f
        (rounded (xM.view.readAt (Elt F) (Rect.unit (s := S1x2048x1024) (offSend c k) S1x256x512.size (offSend_inb c k)).toLoadRect (xstg m c))) Finset.univ)
      : sProp 𝕄) = sOwn c k (sent m c) :=
  pointsTo_congr (ℓ := (sRow k).view.loc (c : Thread nD τ))
    (write_agrees (Val := Elt F) (sRow k).view f (sent m c) (carried m c k) (read_rows_sent k _))

/-- Starting the copy of a chunk whose rows are ready: it takes them and the partner's rows, and pays the departure and the arrival. -/
theorem wp_copy (c : Dev nD) (k : Fin 8) (O : CellTallies nD τ sig Unit) (fl : (cc0_scratch1 : Ref sig .tc).ty.Contents (Elt F)) (W : Waits sig Unit)
    {hsc : (lRow k : Memref sig (Dev.tc (peer c) : Thread nD τ).2.kind .vmem S256x512 .bf16).view.ref.isScScratch = false}
    {hsem : DmaTarget.Typed .vmem (.dma (arrive k)) (.remote (Dev.tc (peer c) : Thread nD τ) (lRow k) (.dma (depart k)) hsc)}
    {rest : PUnit → Body F} {Q : PUnit → sProp 𝕄} :
    iprop(cellInv ER (swapRd m) (K (c, .inr (.inl k))) (goneCell c k) ∗ cellInv ER (swapRd m) (K (peer c, .inr (.inr k))) (hereCell (peer c) k)
        ∗ sOwn c k (sent m c) ∗ lOwn (peer c) k fl
        ∗ owes (c : Thread nD τ) (O + tallyAt (hereCell (peer c) k) () N) W
        ∗ dutyTok ER (goneCell c k) 0 () ∗ reached ER (goneCell c k) 0
        ∗ dutyTok ER (hereCell (peer c) k) 0 () ∗ reached ER (hereCell (peer c) k) 0)
      ⊢ iprop(((cred (tallyAt (goneCell c k) () N) ∗ owes (c : Thread nD τ) O W)
            -∗ wp frame (wpE (defs₀ (F := F)) 𝒱₀ (c : Thread nD τ) none) Set.univ (rest ⟨⟩) Q)
          -∗ wp frame (wpE (defs₀ (F := F)) 𝒱₀ (c : Thread nD τ) none) Set.univ
              (.op (.enqueueDma (sRow k) (.remote (Dev.tc (peer c) : Thread nD τ) (lRow k) (.dma (depart k)) hsc) (.dma (arrive k))
                (sRow_exact k) (lRow_exact k) hsem) rest) Q) := by
  have hd₁ : () ∈ (swapRd m).duties ((c : Thread nD τ), .dma (depart k)) 0 := by
    rw [show (swapRd m).duties ((c : Thread nD τ), .dma (depart k)) 0 = {()} from duties_cell m c (.inr (.inl k))]; exact Finset.mem_singleton_self _
  have hd₂ : () ∈ (swapRd m).duties ((peer c : Thread nD τ), .dma (arrive k)) 0 := by
    rw [show (swapRd m).duties ((peer c : Thread nD τ), .dma (arrive k)) 0 = {()} from duties_cell m (peer c) (.inr (.inr k))]; exact Finset.mem_singleton_self _
  have ha₁ : (swapRd m).amount ((c : Thread nD τ), .dma (depart k)) 0 () = N := amount_cell m c (.inr (.inl k)) ()
  have ha₂ : (swapRd m).amount ((peer c : Thread nD τ), .dma (arrive k)) 0 () = N := amount_cell m (peer c) (.inr (.inr k)) ()
  have hp₁ : ((sRow k).view.loc (c : Thread nD τ) ↦[(sRow k).view.set]{fullShare} sent m c : sProp 𝕄)
      ⊢ (swapRd m).payload ((c : Thread nD τ), .dma (depart k)) 0 () := Entails.of_eq (payload_cell m c (.inr (.inl k)) ()).symm
  have hp₂ : ((lRow k).view.loc (peer c : Thread nD τ) ↦[(lRow k).view.set]{fullShare}
        ((lRow k).view.write (Elt F) fl ((sRow k).view.read (Elt F) (sent m c)) Finset.univ) : sProp 𝕄)
      ⊢ (swapRd m).payload ((peer c : Thread nD τ), .dma (arrive k)) 0 () := by
    rw [show (swapRd m).payload ((peer c : Thread nD τ), .dma (arrive k)) 0 () = _ from payload_cell m (peer c) (.inr (.inr k)) ()]
    refine Entails.of_eq (pointsTo_congr ?_)
    refine write_agrees (Val := Elt F) (lRow k).view fl (landed m (peer c)) _ ?_
    unfold landed sent
    rw [peer_peer, read_rows_landed, read_rows_sent]
  exact Rounds.wp_send_pointsTo (defs := defs₀ (F := F)) (src := sRow k) (c' := (peer c : Thread nD τ)) (dst := lRow k) (hsc := hsc) (hsem := hsem)
    (hsrc := sRow_exact k) (hdst := lRow_exact k) (q := fullShare) (k := rest) (Q := Q) (Γ := .empty) 𝒱₀ ER (swapRd m) (c : Thread nD τ) none
    (κ₁ := K (c, .inr (.inl k))) (κ₂ := K (peer c, .inr (.inr k))) (r₁ := 0) (r₂ := 0) (d₁ := ()) (d₂ := ()) (fd := fl) (fs := sent m c) hd₁ hd₂
    () () N (amount_row k _) ha₁ ha₂ (O₀ := O + tallyAt (hereCell (peer c) k) () N) O rfl (W := W) hp₁ hp₂ (Es := Set.univ)

/-- Sending one chunk. -/
theorem wp_sendChunk (c : Dev nD) (k : Fin 8) (O : CellTallies nD τ sig Unit) {rest : Body F} {Q : PUnit → sProp 𝕄} :
    iprop(records m K ∗ xOwn m c ∗ toSend c k ∗ owing c (O + tallyAt (hereCell (peer c) k) () N)
        ∗ (xOwn m c ∗ onItsWay c k ∗ owing c O -∗ wp frame (wpE (defs₀ (F := F)) 𝒱₀ (c : Thread nD τ) none) Set.univ rest Q))
      ⊢ wp frame (wpE (defs₀ (F := F)) 𝒱₀ (c : Thread nD τ) none) Set.univ (sendChunk k (peer c) (offSend c k) (offSend_inb c k) rest) Q := by
  unfold xOwn toSend owing onItsWay sendChunk
  iintro ⟨#HR, Hx, ⟨⟨%fs, Hs⟩, ⟨%fl, Hl⟩, HtG, HtH⟩, ⟨%W, HO⟩, Hk⟩
  iapply (wp_load 𝒱₀ (c : Thread nD τ) none Set.univ (m := xM) (Finset.subset_univ _)) $$ Hx; iintro Hx
  ihave Hs := (Entails.of_eq (show sOwn c k fs = ((sM.access (rows k)).loc (c : Thread nD τ) ↦[(sM.access (rows k)).set]{fullShare} fs : sProp 𝕄) from rfl)) $$ Hs
  iapply (wp_load_rect 𝒱₀ (c : Thread nD τ) none Set.univ (m := sM) (r := rows k) (Finset.Subset.refl _)) $$ Hs; iintro Hs
  iapply (wp_store 𝒱₀ (c : Thread nD τ) none Set.univ (m := sM) (r := rows k) (Mk := Finset.univ) (View.setOn_univ _).le) $$ Hs; iintro Hs
  ihave Hs := (Entails.of_eq (s_stored m c k fs)) $$ Hs
  iapply (wp_copy m K c k O fl W) $$ [Hs Hl HO HtG HtH]
  · isplitr; · iapply (inv_at m K c (.inr (.inl k))); iexact HR
    isplitr; · iapply (inv_at m K (peer c) (.inr (.inr k))); iexact HR
    isplitl [Hs]; · iexact Hs
    isplitl [Hl]; · iexact Hl
    isplitl [HO]; · iexact HO
    isplitl [HtG]; · iexact HtG
    isplitr; · iapply (reached_at m K c (.inr (.inl k))); iexact HR
    isplitl [HtH]; · iexact HtH
    iapply (reached_at m K (peer c) (.inr (.inr k))); iexact HR
  iintro ⟨Hc, HO⟩
  iapply Hk
  isplitl [Hx]; · iexact Hx
  isplitl [Hc]; · iexact Hc
  iexists W; iexact HO

/-- Sending a list of chunks. -/
theorem wp_sending (c : Dev nD) (ks : List (Fin 8)) {rest : Body F} {Q : PUnit → sProp 𝕄} :
    iprop(records m K ∗ xOwn m c ∗ each (toSend c) ks ∗ owing c (due c ks)
        ∗ (xOwn m c ∗ each (onItsWay c) ks ∗ owing c 0 -∗ wp frame (wpE (defs₀ (F := F)) 𝒱₀ (c : Thread nD τ) none) Set.univ rest Q))
      ⊢ wp frame (wpE (defs₀ (F := F)) 𝒱₀ (c : Thread nD τ) none) Set.univ (sending c ks rest) Q := by
  induction ks generalizing Q with
  | nil =>
    unfold each due
    iintro ⟨#HR, Hx, He, HO, Hk⟩
    iapply Hk
    isplitl [Hx]; · iexact Hx
    isplitl [He]; · iexact He
    iexact HO
  | cons k ks ih =>
    show _ ⊢ wp _ _ _ (sendChunk k (peer c) (offSend c k) (offSend_inb c k) (sending c ks rest)) Q
    rw [each, each, due]
    iintro ⟨#HR, Hx, ⟨Hs, He⟩, HO, Hk⟩
    iapply (wp_sendChunk m K c k (due c ks))
    isplitr; · iexact HR
    isplitl [Hx]; · iexact Hx
    isplitl [Hs]; · iexact Hs
    isplitl [HO]; · iexact HO
    iintro ⟨Hx, Hw, HO⟩
    iapply ih
    isplitr; · iexact HR
    isplitl [Hx]; · iexact Hx
    isplitl [He]; · iexact He
    isplitl [HO]; · iexact HO
    iintro ⟨Hx, Hws, HO⟩
    iapply Hk
    isplitl [Hx]; · iexact Hx
    isplitl [Hw Hws]
    · isplitl [Hw] <;> iassumption
    iexact HO

/-! ## Adding -/

/-- What chunk `k` needs to be added: the claim on its arrival, and its rows of the result. -/
def toAdd (c : Dev nD) (k : Fin 8) : sProp 𝕄 :=
  iprop(atPos ER (hereCell c k) 0 ∅ 0 ∗ cred (tallyAt (hereCell c k) () N) ∗ ∃ f, oOwn c k f)
/-- What adding it leaves: its rows of the result and of the landing buffer in their final contents, its semaphore at zero. -/
def added (c : Dev nD) (k : Fin 8) : sProp 𝕄 :=
  iprop(semVal (hereCell c k) 0 ∗ lOwn c k (landed m c) ∗ oOwn c k (outAt m c))

/-- Storing a chunk's total puts its rows of the result at their final contents. -/
theorem o_stored (c : Dev nD) (k : Fin 8) (f : (cc0_stg1_0 : Ref sig .tc).ty.Contents (Elt F)) :
    (((oM.access (rows k)).loc (c : Thread nD τ) ↦[(oM.access (rows k)).set]{fullShare} (oM.access (rows k)).write (Elt F) f
        (summed (xM.view.readAt (Elt F) (Rect.unit (s := S1x2048x1024) (offKeep c k) S1x256x512.size (offKeep_inb c k)).toLoadRect (xstg m c))
          (carried m (peer c) k)) Finset.univ)
      : sProp 𝕄) = ((oM.access (rows k)).loc (c : Thread nD τ) ↦[(oM.access (rows k)).set]{fullShare} outAt m c) :=
  pointsTo_congr (ℓ := (oM.access (rows k)).loc (c : Thread nD τ))
    (write_agrees (Val := Elt F) (oM.access (rows k)) f (outAt m c) (total m c k) (read_rows_out k _))

/-- Receiving and adding one chunk. -/
theorem wp_addChunk (c : Dev nD) (k : Fin 8) {rest : Body F} {Q : PUnit → sProp 𝕄} :
    iprop(records m K ∗ xOwn m c ∗ toAdd c k ∗ owing c 0
        ∗ (xOwn m c ∗ added m c k ∗ owing c 0 -∗ wp frame (wpE (defs₀ (F := F)) 𝒱₀ (c : Thread nD τ) none) Set.univ rest Q))
      ⊢ wp frame (wpE (defs₀ (F := F)) 𝒱₀ (c : Thread nD τ) none) Set.univ (addChunk k (offKeep c k) (offKeep_inb c k) rest) Q := by
  unfold xOwn toAdd owing added addChunk
  iintro ⟨#HR, Hx, ⟨Hat, Hc, ⟨%fo, Ho⟩⟩, ⟨%W, HO⟩, Hk⟩
  iapply (Rounds.wp_wait_rest_token 𝒱₀ ER (swapRd m) (c : Thread nD τ) none (κ := K (c, .inr (.inr k)))
      (wpE_waitDma2_eq 𝒱₀ (c : Thread nD τ) none Set.univ) (Set.mem_univ _) () (O := 0) (W := W) (R := 0) (m := 0) (T := ∅)
      (by rw [Nat.zero_add]; exact (expect_cell m c (.inr (.inr k))).symm)) $$ [Hc HO Hat]
  · isplitr; · iapply (inv_at m K c (.inr (.inr k))); iexact HR
    isplitl [Hc]; · iexact Hc
    isplitl [HO]; · iexact HO
    isplitr; · rw [MayWait_zero]; iempintro
    iexact Hat
  iintro ⟨HO, Hat, -, Hpay⟩
  ihave Hl := (Entails.of_eq (rest_cell m c (.inr (.inr k)))) $$ Hpay
  imod (Rounds.cell_close ER (swapRd m) (Set.mem_univ (K (c, .inr (.inr k)))) (fun h => h) (R := 0 + 1) (duties_later m (hereCell c k))) $$ [Hat] with Hz
  · isplitr; · iapply (inv_at m K c (.inr (.inr k))); iexact HR
    iexact Hat
  unfold handed lOwn oOwn
  iapply (wp_load 𝒱₀ (c : Thread nD τ) none Set.univ (m := xM) (Finset.subset_univ _)) $$ Hx; iintro Hx
  iapply (wp_load_rect 𝒱₀ (c : Thread nD τ) none Set.univ (m := lM) (r := rows k) (Finset.Subset.refl _)) $$ Hl; iintro Hl
  iapply (wp_load_rect 𝒱₀ (c : Thread nD τ) none Set.univ (m := oM) (r := rows k) (Finset.Subset.refl _)) $$ Ho; iintro Ho
  iapply (wp_store 𝒱₀ (c : Thread nD τ) none Set.univ (m := oM) (r := rows k) (Mk := Finset.univ) (View.setOn_univ _).le) $$ Ho; iintro Ho
  have hl : (lM.access (rows k)).read (Elt F) (landed m c) = carried m (peer c) k := read_rows_landed k _
  rw [hl]
  ihave Ho := (Entails.of_eq (o_stored m c k fo)) $$ Ho
  iapply Hk
  isplitl [Hx]; · iexact Hx
  isplitl [Hz Hl Ho]
  · isplitl [Hz]; · iexact Hz
    isplitl [Hl] <;> iassumption
  iexists _; iexact HO

/-- Receiving and adding a list of chunks. -/
theorem wp_adding (c : Dev nD) (ks : List (Fin 8)) {rest : Body F} {Q : PUnit → sProp 𝕄} :
    iprop(records m K ∗ xOwn m c ∗ each (toAdd c) ks ∗ owing c 0
        ∗ (xOwn m c ∗ each (added m c) ks ∗ owing c 0 -∗ wp frame (wpE (defs₀ (F := F)) 𝒱₀ (c : Thread nD τ) none) Set.univ rest Q))
      ⊢ wp frame (wpE (defs₀ (F := F)) 𝒱₀ (c : Thread nD τ) none) Set.univ (adding c ks rest) Q := by
  induction ks generalizing Q with
  | nil =>
    unfold each
    iintro ⟨#HR, Hx, He, HO, Hk⟩
    iapply Hk
    isplitl [Hx]; · iexact Hx
    isplitl [He]; · iexact He
    iexact HO
  | cons k ks ih =>
    show _ ⊢ wp _ _ _ (addChunk k (offKeep c k) (offKeep_inb c k) (adding c ks rest)) Q
    rw [each, each]
    iintro ⟨#HR, Hx, ⟨Hs, He⟩, HO, Hk⟩
    iapply (wp_addChunk m K c k)
    isplitr; · iexact HR
    isplitl [Hx]; · iexact Hx
    isplitl [Hs]; · iexact Hs
    isplitl [HO]; · iexact HO
    iintro ⟨Hx, Hw, HO⟩
    iapply ih
    isplitr; · iexact HR
    isplitl [Hx]; · iexact Hx
    isplitl [He]; · iexact He
    isplitl [HO]; · iexact HO
    iintro ⟨Hx, Hws, HO⟩
    iapply Hk
    isplitl [Hx]; · iexact Hx
    isplitl [Hw Hws]
    · isplitl [Hw] <;> iassumption
    iexact HO

/-! ## Waiting for the departures -/

/-- What waiting for chunk `k`'s departure needs. -/
def toLeave (c : Dev nD) (k : Fin 8) : sProp 𝕄 := iprop(atPos ER (goneCell c k) 0 ∅ 0 ∗ onItsWay c k)
/-- What waiting for chunk `k`'s departure leaves. -/
def gone (c : Dev nD) (k : Fin 8) : sProp 𝕄 := iprop(semVal (goneCell c k) 0 ∗ sOwn c k (sent m c))

/-- Waiting for one departure. -/
theorem wp_goneChunk (c : Dev nD) (k : Fin 8) {rest : Body F} {Q : PUnit → sProp 𝕄} :
    iprop(records m K ∗ toLeave c k ∗ owing c 0
        ∗ (gone m c k ∗ owing c 0 -∗ wp frame (wpE (defs₀ (F := F)) 𝒱₀ (c : Thread nD τ) none) Set.univ rest Q))
      ⊢ wp frame (wpE (defs₀ (F := F)) 𝒱₀ (c : Thread nD τ) none) Set.univ (goneChunk k rest) Q := by
  unfold toLeave onItsWay owing gone goneChunk
  iintro ⟨#HR, ⟨Hat, Hc⟩, ⟨%W, HO⟩, Hk⟩
  iapply (Rounds.wp_wait_rest_token 𝒱₀ ER (swapRd m) (c : Thread nD τ) none (κ := K (c, .inr (.inl k)))
      (wpE_waitDma2_eq 𝒱₀ (c : Thread nD τ) none Set.univ) (Set.mem_univ _) () (O := 0) (W := W) (R := 0) (m := 0) (T := ∅)
      (by rw [Nat.zero_add]; exact (expect_cell m c (.inr (.inl k))).symm)) $$ [Hc HO Hat]
  · isplitr; · iapply (inv_at m K c (.inr (.inl k))); iexact HR
    isplitl [Hc]; · iexact Hc
    isplitl [HO]; · iexact HO
    isplitr; · rw [MayWait_zero]; iempintro
    iexact Hat
  iintro ⟨HO, Hat, -, Hpay⟩
  ihave Hs := (Entails.of_eq (rest_cell m c (.inr (.inl k)))) $$ Hpay
  imod (Rounds.cell_close ER (swapRd m) (Set.mem_univ (K (c, .inr (.inl k)))) (fun h => h) (R := 0 + 1) (duties_later m (goneCell c k))) $$ [Hat] with Hz
  · isplitr; · iapply (inv_at m K c (.inr (.inl k))); iexact HR
    iexact Hat
  unfold handed
  iapply Hk
  isplitl [Hz Hs]
  · isplitl [Hz] <;> iassumption
  iexists _; iexact HO

/-- Waiting for a list of departures. -/
theorem wp_leaving (c : Dev nD) (ks : List (Fin 8)) {rest : Body F} {Q : PUnit → sProp 𝕄} :
    iprop(records m K ∗ each (toLeave c) ks ∗ owing c 0
        ∗ (each (gone m c) ks ∗ owing c 0 -∗ wp frame (wpE (defs₀ (F := F)) 𝒱₀ (c : Thread nD τ) none) Set.univ rest Q))
      ⊢ wp frame (wpE (defs₀ (F := F)) 𝒱₀ (c : Thread nD τ) none) Set.univ (leaving ks rest) Q := by
  induction ks generalizing Q with
  | nil =>
    unfold each
    iintro ⟨#HR, He, HO, Hk⟩
    iapply Hk
    isplitl [He]; · iexact He
    iexact HO
  | cons k ks ih =>
    show _ ⊢ wp _ _ _ (goneChunk k (leaving ks rest)) Q
    rw [each, each]
    iintro ⟨#HR, ⟨Hs, He⟩, HO, Hk⟩
    iapply (wp_goneChunk m K c k)
    isplitr; · iexact HR
    isplitl [Hs]; · iexact Hs
    isplitl [HO]; · iexact HO
    iintro ⟨Hw, HO⟩
    iapply ih
    isplitr; · iexact HR
    isplitl [He]; · iexact He
    isplitl [HO]; · iexact HO
    iintro ⟨Hws, HO⟩
    iapply Hk
    isplitl [Hw Hws]
    · isplitl [Hw] <;> iassumption
    iexact HO

end Cert.ChunkSwap

end
-- ==== Proof.Exchange.lean ====
/-
# The body on one device

From what the launch deals a device, the body runs to its end with the staged block as it was, the result block holding
the totals, both scratch buffers full and every semaphore at zero.
-/
module

public import proofs.«01_k».proof.Proof.Steps

@[expose] public section

noncomputable section

namespace Cert.ChunkSwap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Assertions for every chunk -/

/-- What each chunk's assertion entails is entailed for a list of chunks. -/
theorem each_mono {M : Type} [URA M] {Φ Ψ : Fin 8 → sProp M} (h : ∀ k, Φ k ⊢ Ψ k) (l : List (Fin 8)) : each Φ l ⊢ each Ψ l := by
  induction l with
  | nil => exact BI.Entails.refl _
  | cons k ks ih => exact BI.sep_mono (h k) ih

/-- Two assertions for each chunk are one for every chunk, and the other for every chunk. -/
theorem each_sep {M : Type} [URA M] (Φ Ψ : Fin 8 → sProp M) :
    each (fun k => iprop(Φ k ∗ Ψ k)) chunks = iprop(each Φ chunks ∗ each Ψ chunks) := by
  rw [each_chunks, each_chunks, each_chunks, bigSep_sep']

/-! ## The body with the device known -/

/-- The body on device `c`: meet the partner, send, add, wait. -/
def bodyOn (c : Dev nD) : Body F :=
  Prog.op (.semSignal (peer c, .tc) meet ((1#32 : BitVec 32).toInt)) fun _ =>
  Prog.op (.semWait meet ((1#32 : BitVec 32).toInt)) fun _ =>
  sending c chunks <| adding c chunks <| leaving chunks <| Prog.ret ⟨⟩

/-- The kernel's body asks which device it is on, and goes on as that device's body. -/
theorem byChunks_eq : (byChunks : Body F) = Prog.op .deviceId bodyOn := by
  unfold byChunks
  refine congrArg (Prog.op TpuEff.deviceId) (funext fun d => ?_)
  show Prog.op _ _ = bodyOn d
  simp only [peer_of d _ (k0_dev1_lt d) (k0_dev1_eq d), sendAll_eq, addAll_eq, goneAll_eq]
  rfl

/-! ## What a device starts from and ends with -/

/-- A device's places on its semaphores, and the rights it pays with: its partner's meeting, its own departures, its
    partner's arrivals. -/
def linear (c : Dev nD) : sProp 𝕄 :=
  iprop((atPos ER (meetCell c) 0 ∅ 0 ∗ each (fun k => atPos ER (goneCell c k) 0 ∅ 0) chunks ∗ each (fun k => atPos ER (hereCell c k) 0 ∅ 0) chunks)
    ∗ dutyTok ER (meetCell (peer c)) 0 () ∗ each (fun k => dutyTok ER (goneCell c k) 0 ()) chunks
    ∗ each (fun k => dutyTok ER (hereCell (peer c) k) 0 ()) chunks)

/-- The claims it starts with, on its meeting and on every arrival, and the order of the semaphores. -/
def claims (c : Dev nD) : sProp 𝕄 :=
  iprop(cred (tallyAt (meetCell c) () 1) ∗ each (fun k => cred (tallyAt (hereCell c k) () N)) chunks)

/-- What a device starts with: the common knowledge, its places and rights, its claims. -/
def start (c : Dev nD) : sProp 𝕄 := iprop((∃ K, records m K ∗ linear c) ∗ claims c ∗ levAts L lv)

/-- Before the body: that, and the two scratch buffers at some contents. -/
def Φ₀ (c : Dev nD) : sProp 𝕄 :=
  iprop(start m c ∗ (∃ f, each (fun k => sOwn c k f) chunks) ∗ ∃ f, each (fun k => lOwn c k f) chunks)

/-- After it: every semaphore at zero, the scratch buffers full. -/
def Φ₁ (c : Dev nD) : sProp 𝕄 :=
  iprop(semVal (meetCell c) 0 ∗ (each (fun k => semVal (goneCell c k) 0) chunks ∗ each (fun k => semVal (hereCell c k) 0) chunks)
    ∗ each (fun k => sOwn c k (sent m c)) chunks ∗ each (fun k => lOwn c k (landed m c)) chunks)

/-- What the launch's staging is told: what the windows hold and what a device owes. -/
def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

variable (K : Dev nD × Port → ℕ)

/-- Meeting the partner: the device gives its landing buffer away and gets its partner's. -/
theorem wp_meet (c : Dev nD) {rest : Body F} {Q : PUnit → sProp 𝕄} :
    iprop(records m K ∗ levAts L lv ∗ (atPos ER (meetCell c) 0 ∅ 0 ∗ dutyTok ER (meetCell (peer c)) 0 () ∗ cred (tallyAt (meetCell c) () 1))
        ∗ (∃ f, each (fun k => lOwn c k f) chunks) ∗ owing c (O₀ c)
        ∗ (semVal (meetCell c) 0 ∗ (∃ f, each (fun k => lOwn (peer c) k f) chunks) ∗ owing c (due c chunks)
            -∗ wp frame (wpE (defs₀ (F := F)) 𝒱₀ (c : Thread nD τ) none) Set.univ rest Q))
      ⊢ wp frame (wpE (defs₀ (F := F)) 𝒱₀ (c : Thread nD τ) none) Set.univ
          (Prog.op (.semSignal (peer c, .tc) meet ((1#32 : BitVec 32).toInt)) fun _ => Prog.op (.semWait meet ((1#32 : BitVec 32).toInt)) fun _ => rest) Q := by
  unfold owing O₀
  iintro ⟨#HR, #Hlev, ⟨Hat, Ht, Hc⟩, ⟨%f, Hl⟩, ⟨%W, HO⟩, Hk⟩
  iapply (Rounds.wp_signal 𝒱₀ ER (swapRd m) (c : Thread nD τ) none (dst := (peer c : Thread nD τ)) (κ := K (peer c, .inl ()))
      (d := ()) (by rw [duties_cell m (peer c) (.inl ())]; exact Finset.mem_singleton_self _)
      ((amount_cell m (peer c) (.inl ()) ()).trans (by decide)) () (due c chunks) rfl) $$ [HO Ht Hl]
  · isplitr; · iapply (inv_at m K (peer c) (.inl ())); iexact HR
    isplitl [HO]; · iexact HO
    isplitl [Ht]; · iexact Ht
    isplitl [Hl]
    · rw [payload_cell m (peer c) (.inl ())]; unfold handed; rw [peer_peer]
      iexists f; iexact Hl
    iapply (reached_at m K (peer c) (.inl ())); iexact HR
  iintro HO
  iapply (Rounds.wp_wait_rest_token 𝒱₀ ER (swapRd m) (c : Thread nD τ) none (κ := K (c, .inl ()))
      (wpE_semWait_eq 𝒱₀ (c : Thread nD τ) none Set.univ) (Set.mem_univ _) () (O := due c chunks) (W := W) (R := 0) (m := 0) (T := ∅)
      (by rw [expect_cell m c (.inl ())]; decide)) $$ [Hc HO Hat]
  · isplitr; · iapply (inv_at m K c (.inl ())); iexact HR
    isplitl [Hc]; · iexact Hc
    isplitl [HO]; · iexact HO
    isplitr; · iapply (mayWait_meet c); iexact Hlev
    iexact Hat
  iintro ⟨HO, Hat, -, Hpay⟩
  ihave Hl := (Entails.of_eq (rest_cell m c (.inl ()))) $$ Hpay
  imod (Rounds.cell_close ER (swapRd m) (Set.mem_univ (K (c, .inl ()))) (fun h => h) (R := 0 + 1) (duties_later m (meetCell c))) $$ [Hat] with Hz
  · isplitr; · iapply (inv_at m K c (.inl ())); iexact HR
    iexact Hat
  iapply Hk
  isplitl [Hz]; · iexact Hz
  isplitl [Hl]; · unfold handed; iexact Hl
  iexists _; iexact HO

/-- What sending every chunk needs, kind by kind. -/
theorem toSend_split (c : Dev nD) : each (toSend (F := F) c) chunks
    = iprop(each (fun k => iprop(∃ f, sOwn c k f)) chunks ∗ each (fun k => iprop(∃ f, lOwn (peer c) k f)) chunks
        ∗ each (fun k => dutyTok ER (goneCell c k) 0 ()) chunks ∗ each (fun k => dutyTok ER (hereCell (peer c) k) 0 ()) chunks) := by
  unfold toSend; rw [each_sep, each_sep, each_sep]
/-- What adding every chunk needs, kind by kind. -/
theorem toAdd_split (c : Dev nD) : each (toAdd (F := F) c) chunks
    = iprop(each (fun k => atPos ER (hereCell c k) 0 ∅ 0) chunks ∗ each (fun k => cred (tallyAt (hereCell c k) () N)) chunks
        ∗ each (fun k => iprop(∃ f, oOwn c k f)) chunks) := by
  unfold toAdd; rw [each_sep, each_sep]
/-- What adding every chunk leaves, kind by kind. -/
theorem added_split (c : Dev nD) : each (added m c) chunks
    = iprop(each (fun k => semVal (hereCell c k) 0) chunks ∗ each (fun k => lOwn c k (landed m c)) chunks
        ∗ each (fun k => oOwn c k (outAt m c)) chunks) := by
  unfold added; rw [each_sep, each_sep]
/-- What waiting for every departure needs, kind by kind. -/
theorem toLeave_split (c : Dev nD) : each (toLeave (F := F) c) chunks
    = iprop(each (fun k => atPos ER (goneCell c k) 0 ∅ 0) chunks ∗ each (onItsWay c) chunks) := by
  unfold toLeave; rw [each_sep]
/-- What waiting for every departure leaves, kind by kind. -/
theorem gone_split (c : Dev nD) : each (gone m c) chunks
    = iprop(each (fun k => semVal (goneCell c k) 0) chunks ∗ each (fun k => sOwn c k (sent m c)) chunks) := by
  unfold gone; rw [each_sep]

/-- The body of device `c`. -/
theorem wp_bodyOn (c : Dev nD) (fo : (cc0_stg1_0 : Ref sig .tc).ty.Contents (Elt F)) {Q : PUnit → sProp 𝕄} :
    iprop(Φ₀ m c ∗ xOwn m c ∗ each (fun k => oOwn c k fo) chunks ∗ owing c (O₀ c)
        ∗ (Φ₁ m c ∗ xOwn m c ∗ each (fun k => oOwn c k (outAt m c)) chunks ∗ owing c 0 -∗ Q ⟨⟩))
      ⊢ wp frame (wpE (defs₀ (F := F)) 𝒱₀ (c : Thread nD τ) none) Set.univ (bodyOn c) Q := by
  unfold Φ₀ start linear claims bodyOn
  iintro ⟨⟨⟨⟨%K, #HR, ⟨HaM, HaG, HaH⟩, HtM, HtG, HtH⟩, ⟨HcM, HcH⟩, #Hlev⟩, ⟨%fs, Hs⟩, Hl⟩, Hx, Ho, HO, Hk⟩
  iapply (wp_meet m K c)
  isplitr; · iexact HR
  isplitr; · iexact Hlev
  isplitl [HaM HtM HcM]
  · isplitl [HaM]; · iexact HaM
    isplitl [HtM] <;> iassumption
  isplitl [Hl]; · iexact Hl
  isplitl [HO]; · iexact HO
  iintro ⟨HzM, ⟨%fl, Hl⟩, HO⟩
  iapply (wp_sending m K c chunks)
  isplitr; · iexact HR
  isplitl [Hx]; · iexact Hx
  isplitl [Hs Hl HtG HtH]
  · rw [toSend_split]
    isplitl [Hs]; · iapply (each_mono (fun k => exists_intro (Φ := fun f => sOwn c k f) fs) chunks); iexact Hs
    isplitl [Hl]; · iapply (each_mono (fun k => exists_intro (Φ := fun f => lOwn (peer c) k f) fl) chunks); iexact Hl
    isplitl [HtG] <;> iassumption
  isplitl [HO]; · iexact HO
  iintro ⟨Hx, HcG, HO⟩
  iapply (wp_adding m K c chunks)
  isplitr; · iexact HR
  isplitl [Hx]; · iexact Hx
  isplitl [HaH HcH Ho]
  · rw [toAdd_split]
    isplitl [HaH]; · iexact HaH
    isplitl [HcH]; · iexact HcH
    iapply (each_mono (fun k => exists_intro (Φ := fun f => oOwn c k f) fo) chunks); iexact Ho
  isplitl [HO]; · iexact HO
  iintro ⟨Hx, Hadd, HO⟩
  ihave Hadd := (Entails.of_eq (added_split m c)) $$ Hadd
  icases Hadd with ⟨HzH, Hl, Ho⟩
  iapply (wp_leaving m K c chunks)
  isplitr; · iexact HR
  isplitl [HaG HcG]
  · rw [toLeave_split]
    isplitl [HaG] <;> iassumption
  isplitl [HO]; · iexact HO
  iintro ⟨Hgone, HO⟩
  ihave Hgone := (Entails.of_eq (gone_split m c)) $$ Hgone
  icases Hgone with ⟨HzG, Hs⟩
  rw [wp_ret]; imodintro
  iapply Hk
  unfold Φ₁
  isplitl [HzM HzG HzH Hs Hl]
  · isplitl [HzM]; · iexact HzM
    isplitl [HzG HzH]
    · isplitl [HzG] <;> iassumption
    isplitl [Hs] <;> iassumption
  isplitl [Hx]; · iexact Hx
  isplitl [Ho] <;> iassumption

/-! ## The obligation the launch asks for -/

/-- The input is staged before the body. -/
theorem fetch_0 (t : Fin cfg0.N) : (cfg0.win (0 : Fin 2)).fetch t = true := by rw [fin_N0 t]; rfl

/-- Holding a whole buffer with contents that read as `X` is holding it at `X`. -/
theorem owns_all (c : Dev nD) (b : Ref sig .tc) (X : b.ty.Contents (Elt F)) :
    (owns (c : Thread nD τ) (Memref.whole b) fullShare X : sProp 𝕄) = (((c : Thread nD τ).loc b) ↦{fullShare} X) := by
  unfold owns
  rw [Memref.view_whole, View.set_whole]
  have there : iprop(∃ f, ⌜(View.whole b).read (Elt F) f = X⌝ ∗ (((c : Thread nD τ).loc b) ↦{fullShare} f))
      ⊢ (((c : Thread nD τ).loc b) ↦{fullShare} X : sProp 𝕄) := by
    iintro ⟨%f, %h, H⟩
    obtain rfl : f = X := h
    iexact H
  have back : (((c : Thread nD τ).loc b) ↦{fullShare} X : sProp 𝕄)
      ⊢ iprop(∃ f, ⌜(View.whole b).read (Elt F) f = X⌝ ∗ (((c : Thread nD τ).loc b) ↦{fullShare} f)) := by
    iintro H
    iexists X
    isplitr; · (ipureintro; rfl)
    iexact H
  exact Entails.antisymm there back

set_option maxRecDepth 4000 in
/-- The kernel's body meets what the launch asks of it. -/
theorem body_obligation (c : Dev nD) : BodyObligation (dats (F := F) m 0 c) (defs₀ (F := F)) 𝒱₀ () Set.univ := fun t => by
  rw [fin_N0 t, bigSep_W0, bigSep_W0]
  simp only [owns_all]
  show iprop(Φ₀ m c ∗ (dats m 0 c).owesAt () t0_0.castSucc
        ∗ (∃ d, ((c : Thread nD τ).loc cc0_stg0_0) ↦{fullShare} (dats m 0 c).before (0 : Fin 2) t0_0 d) ∗ (∃ d, ((c : Thread nD τ).loc cc0_stg1_0) ↦{fullShare} (dats m 0 c).before (1 : Fin 2) t0_0 d))
      ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => iprop(Φ₁ m c ∗ (dats m 0 c).owesAt () t0_0.succ ∗ (((c : Thread nD τ).loc cc0_stg0_0) ↦{fullShare} xstg m c) ∗ (((c : Thread nD τ).loc cc0_stg1_0) ↦{fullShare} outAt m c)))
  rw [body_byChunks, byChunks_eq, wp_deviceId]
  unfold Dat.owesAt Pipeline.owesWithin
  iintro ⟨HΦ, ⟨%W, %hW, HO⟩, ⟨%d0, Hx⟩, ⟨%d1, Ho⟩⟩
  have hx : (dats m 0 c).before (0 : Fin 2) t0_0 d0 = xstg m c := by unfold Dat.before; rw [if_pos (fetch_0 t0_0)]; rfl
  ihave Hx := (Entails.of_eq (congrArg (fun X => (((c : Thread nD τ).loc cc0_stg0_0) ↦{fullShare} X : sProp 𝕄)) hx)) $$ Hx
  iapply (wp_bodyOn m c ((dats m 0 c).before (1 : Fin 2) t0_0 d1))
  isplitl [HΦ]; · iexact HΦ
  isplitl [Hx]; · unfold xOwn; iexact Hx
  isplitl [Ho]; · iapply (Entails.of_eq (o_rows c _)); iexact Ho
  isplitl [HO]; · unfold owing; iexists W; iexact HO
  unfold owing
  iintro ⟨HΦ, Hx, Ho, ⟨%W', HO⟩⟩
  isplitl [HΦ]; · iexact HΦ
  isplitl [HO]
  · iexists W'
    isplitr; · ipureintro; exact fun _ _ => Or.inl trivial
    iexact HO
  isplitl [Hx]; · unfold xOwn; iexact Hx
  iapply (Entails.of_eq (o_rows c (outAt m c)).symm); iexact Ho

end Cert.ChunkSwap

end
-- ==== Proof.Run.lean ====
/-
# The launch

All 32 devices from any memory with every semaphore at zero: the ghost state of the schedule is dealt, each pair's
rights are exchanged, and the whole run ends with every result block at its totals, every input as it was and every
semaphore at zero.
-/
module

public import proofs.«01_k».proof.Proof.Exchange
public import Idealize.ShloMosaic.Lib.Pipeline.CollectiveSegs

@[expose] public section

noncomputable section

namespace Cert.ChunkSwap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The ghost state at launch -/

/-- A device holds its arrays whole. -/
theorem share_eq (c : Dev nD) (w : Fin cfg0.W) : (dats m 0 c).share w = fullShare := by unfold Dat.share; split <;> rfl

/-- The exchange's semaphores on all devices. -/
def allCells : Finset (GSem nD τ sig) := Finset.univ.map ⟨fun cp : Dev nD × Port => cell cp.1 cp.2, cell_inj⟩

/-- Each of them has its own right. -/
theorem tok_inj : Function.Injective (fun cp : Dev nD × Port => ((cell cp.1 cp.2, 0, ()) : GSem nD τ sig × ℕ × Unit)) :=
  fun _ _ h => cell_inj (congrArg Prod.fst h)
/-- Their rights. -/
def allToks : Finset (GSem nD τ sig × ℕ × Unit) := Finset.univ.map ⟨_, tok_inj⟩

/-- The ghost state at launch. -/
def u₀ : UU := (initOf (Pipeline.cells cfgs cellOf_inj) (Pipeline.launchToks cfgs cellOf_inj), initOf allCells allToks)

/-- What the launch deals device `c`: for each of its semaphores the first round, a place, its mark and its right. -/
def G (c : Dev nD) : sProp 𝕄 :=
  iprop((bigSep Finset.univ fun p : Port => roundState ER (swapRd m) (cell c p) 0)
    ∗ (bigSep Finset.univ fun p : Port => atPos ER (cell c p) 0 ∅ 0) ∗ (bigSep Finset.univ fun p : Port => reached ER (cell c p) 0)
    ∗ bigSep Finset.univ fun p : Port => dutyTok ER (cell c p) 0 ())

/-- What the exchange of rights makes of it. -/
def G' (c : Dev nD) : sProp 𝕄 := iprop(∃ K, records m K ∗ linear c)

/-- It is dealt out to the devices. -/
theorem deal : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun p : Port => Φ (cell c p) := by
    unfold allCells; rw [bigSep_map, bigSep_univ_prod]; rfl
  have hT : bigSep allToks (fun x => (dutyTok ER x.1 x.2.1 x.2.2 : sProp 𝕄))
      = bigSep Finset.univ fun c : Dev nD => bigSep Finset.univ fun p : Port => dutyTok ER (cell c p) 0 () := by
    unfold allToks; rw [bigSep_map, bigSep_univ_prod]; rfl
  iintro HX
  imod (Rounds.fund ER (swapRd m) allCells allToks) $$ HX with ⟨Hst, Hr, Hat, Htok⟩
  imodintro
  ihave Hst' := (Entails.of_eq (hX fun g => roundState ER (swapRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat']; · iexact Hat'
  isplitl [Hr'] <;> iassumption

/-! ## The semaphores -/

/-- One assertion for each of a device's semaphores: the meeting one, the departures, the arrivals. -/
theorem ports (Φ : Port → sProp 𝕄) : bigSep Finset.univ Φ
    = iprop(Φ (.inl ()) ∗ each (fun k => Φ (.inr (.inl k))) chunks ∗ each (fun k => Φ (.inr (.inr k))) chunks) := by
  rw [each_chunks, each_chunks, bigSep_univ_sum, bigSep_univ_sum]
  rw [show (Finset.univ : Finset Unit) = {()} from rfl, bigSep_singleton]
  rfl

/-- The copies' semaphores at zero: the departures and the arrivals. -/
theorem ownSems0_eq (c : Dev nD) : (Pipeline.ownSems0 (Ix := Unit) (Name := ℕ) (U := UU) (Lvl := ℕ) (Val := Elt F) (τ := τ) osem c : sProp 𝕄)
    = iprop(each (fun k => semVal (goneCell c k) 0) chunks ∗ each (fun k => semVal (hereCell c k) 0) chunks) := by
  unfold Pipeline.ownSems0
  rw [each_chunks, each_chunks, bigSep_univ_sum]
  rfl
/-- The semaphore outside the call at zero: the one to meet on. -/
theorem unscopedSems0_eq (c : Dev nD) : (unscopedSems0 c : sProp 𝕄) = semVal (meetCell c) 0 := by
  unfold unscopedSems0; rw [bigSep_eq_bigSepL_of_eq [SemLoc.reg meet] (by decide) (by decide)]; rfl

/-- Together they are all of a device's semaphores at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun p : Port => semVal (cell c p) 0 : sProp 𝕄) := by
  rw [ownSems0_eq, unscopedSems0_eq, ports]
  iintro ⟨HO, HB⟩
  isplitl [HB] <;> iassumption

/-- Each device's semaphores put under the schedule. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun p : Port => iprop(∃ κ : ℕ, cellInv ER (swapRd m) κ (cell c p)))
          ∗ (bigSep Finset.univ fun p : Port => atPos ER (cell c p) 0 ∅ 0) ∗ (bigSep Finset.univ fun p : Port => reached ER (cell c p) 0)
          ∗ bigSep Finset.univ fun p : Port => dutyTok ER (cell c p) 0 ()) := by
  unfold G
  iintro ⟨Hos, Hus, Hst, Hrest⟩
  ihave Hv := (sems0_eq (F := F) c) $$ [Hos Hus]
  · isplitl [Hos] <;> iassumption
  imod (show iprop((bigSep Finset.univ fun p : Port => semVal (cell c p) 0) ∗ bigSep Finset.univ fun p : Port => roundState ER (swapRd m) (cell c p) 0)
      ⊢ (|={Set.univ}=> bigSep Finset.univ fun p : Port => iprop(∃ κ : ℕ, cellInv ER (swapRd m) κ (cell c p)) : sProp 𝕄) from by
        rw [← bigSep_sep']
        exact (bigSep_mono fun p _ => (Rounds.body_intro ER (swapRd m) (cell c p)).trans inv_alloc).trans (bigSep_fupd _ _)) $$ [Hv Hst] with Hinv
  · isplitl [Hv] <;> iassumption
  imodintro
  isplitl [Hinv]; · iexact Hinv
  iexact Hrest

/-- The rights exchanged in each pair: a device's meeting and its arrivals are paid by its partner. -/
theorem exchange :
    iprop((bigSep Finset.univ fun c : Dev nD => bigSep Finset.univ fun p : Port => atPos ER (cell c p) 0 ∅ 0)
      ∗ bigSep Finset.univ fun c : Dev nD => bigSep Finset.univ fun p : Port => (dutyTok ER (cell c p) 0 () : sProp 𝕄))
      ⊢ bigSep Finset.univ fun c : Dev nD => (linear c : sProp 𝕄) := by
  unfold linear
  simp only [ports, bigSep_sep']
  rw [bigSep_univ_equiv swap (fun c : Dev nD => (dutyTok ER (cell c (.inl ())) 0 () : sProp 𝕄)),
    bigSep_univ_equiv swap (fun c : Dev nD => (each (fun k => dutyTok ER (cell c (.inr (.inr k))) 0 ()) chunks : sProp 𝕄))]
  exact BI.Entails.refl _

/-- From every semaphore under its schedule, what each device starts from. -/
theorem regroup :
    (bigSep Finset.univ fun c : Dev nD => iprop((bigSep Finset.univ fun p : Port => iprop(∃ κ : ℕ, cellInv ER (swapRd m) κ (cell c p)))
          ∗ (bigSep Finset.univ fun p : Port => atPos ER (cell c p) 0 ∅ 0) ∗ (bigSep Finset.univ fun p : Port => reached ER (cell c p) 0)
          ∗ bigSep Finset.univ fun p : Port => dutyTok ER (cell c p) 0 ()) : sProp 𝕄)
      ⊢ bigSep Finset.univ (G' m) := by
  rw [bigSep_sep', bigSep_sep', bigSep_sep', ← bigSep_univ_prod (fun cp : Dev nD × Port => iprop(∃ κ : ℕ, cellInv ER (swapRd m) κ (cell cp.1 cp.2))),
    ← bigSep_univ_prod (fun cp : Dev nD × Port => (reached ER (cell cp.1 cp.2) 0 : sProp 𝕄))]
  iintro ⟨HI, Hat, #HR, Htok⟩
  ihave HK := (BI.bigSep_exists_pi Finset.univ (fun (cp : Dev nD × Port) (κ : ℕ) => (cellInv ER (swapRd m) κ (cell cp.1 cp.2) : sProp 𝕄))) $$ HI
  icases HK with ⟨%K, #HI⟩
  ihave Hlin := (exchange (F := F)) $$ [Hat Htok]
  · isplitl [Hat] <;> iassumption
  have hk : ∀ c ∈ (Finset.univ : Finset (Dev nD)), iprop(records m K ∗ linear c) ⊢ G' m c :=
    fun c _ => exists_intro (Φ := fun K => iprop(records m K ∗ linear c)) K
  have hall : iprop(records m K ∗ bigSep Finset.univ fun c : Dev nD => (linear c : sProp 𝕄)) ⊢ bigSep Finset.univ (G' m) :=
    (sep_mono_left (BI.bigSep_of_persistent Finset.univ (records m K))).trans (by rw [← bigSep_sep']; exact bigSep_mono hk)
  iapply hall
  isplitr
  · unfold records; isplitl; · iexact HI
    iexact HR
  · iexact Hlin

/-- From what all devices are dealt, what each of them starts from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The claims a device starts with -/

/-- Two semaphores are equal exactly when their devices and their kinds are. -/
theorem port_eq_iff {a b : Dev nD} {p q : Port} : cell a p = cell b q ↔ a = b ∧ p = q :=
  ⟨fun h => by have := cell_inj (a₁ := (a, p)) (a₂ := (b, q)) h; exact ⟨congrArg Prod.fst this, congrArg Prod.snd this⟩, fun h => by rw [h.1, h.2]⟩

/-- What a device owes an arrival along a list of chunks: its partner's, once for each time the chunk is listed. -/
theorem due_here (d c : Dev nD) (k : Fin 8) (ks : List (Fin 8)) : due d ks (hereCell c k) () = if d = peer c then ks.count k * N else 0 := by
  induction ks with
  | nil => rw [List.count_nil, Nat.zero_mul, ite_self]; rfl
  | cons j ks ih =>
    rw [due, Pi.add_apply, Finsupp.add_apply, ih, tallyAt_apply]
    by_cases hd : d = peer c
    · subst hd
      rw [if_pos rfl, if_pos rfl, peer_peer, List.count_cons]
      by_cases hj : j = k
      · subst hj; rw [if_pos ⟨rfl, rfl⟩]; simp [Nat.add_mul]
      · rw [if_neg fun h => hj (Sum.inr.inj (Sum.inr.inj (port_eq_iff.mp h.1).2)).symm]; simp [hj]
    · rw [if_neg hd, if_neg hd, if_neg fun h => hd (by rw [(port_eq_iff.mp h.1).1, peer_peer])]

/-- Nothing owed along a list of chunks is owed to a meeting. -/
theorem due_meet (d c : Dev nD) (ks : List (Fin 8)) : due d ks (meetCell c) () = 0 := by
  by_contra h
  obtain ⟨k, hk⟩ := due_pos (Nat.pos_of_ne_zero h)
  exact absurd (port_eq_iff.mp hk).2 (fun h => by cases h)

/-- At launch a meeting is owed one signal, by the partner. -/
theorem owed_meet (d c : Dev nD) : O₀ d (meetCell c) () = if d = peer c then 1 else 0 := by
  unfold O₀
  rw [Pi.add_apply, Finsupp.add_apply, due_meet, tallyAt_apply, Nat.zero_add]
  refine if_congr ⟨fun h => ?_, fun h => ?_⟩ rfl rfl
  · rw [(port_eq_iff.mp h.1).1, peer_peer]
  · rw [h, peer_peer]; exact ⟨rfl, rfl⟩

/-- At launch an arrival is owed one chunk, by the partner. -/
theorem owed_here (d c : Dev nD) (k : Fin 8) : O₀ d (hereCell c k) () = if d = peer c then N else 0 := by
  unfold O₀
  rw [Pi.add_apply, Finsupp.add_apply, due_here, tallyAt_apply, if_neg (c := hereCell c k = meetCell (peer d) ∧ () = ()) (fun h => by cases (port_eq_iff.mp h.1).2), Nat.add_zero,
    show chunks.count k = 1 from by revert k; decide, Nat.one_mul]

/-- What all devices owe a semaphore is what the partner owes it, where only the partner owes it anything. -/
theorem launch_of (c : Dev nD) (p : Port) (n : ℕ) (h : ∀ d, O₀ d (cell c p) () = if d = peer c then n else 0) :
    tallyOn (cell c p) (launchCredit (Pipeline.owing O₀) 0 (cell c p)) = (tallyAt (cell c p) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

/-- The claims the launch gives a device are those it starts with. -/
theorem creds (c : Dev nD) : (Pipeline.launchCred O₀ c : sProp 𝕄) ⊢ claims c := by
  have hsub : (Pipeline.launchCred O₀ c : sProp 𝕄) ⊢ bigSep Finset.univ fun p : Port => cred (tallyOn (cell c p) (launchCredit (Pipeline.owing O₀) 0 (cell c p))) := by
    rw [show (bigSep Finset.univ fun p : Port => (cred (tallyOn (cell c p) (launchCredit (Pipeline.owing O₀) 0 (cell c p))) : sProp 𝕄))
      = bigSep (Finset.univ.map ⟨csem, csem_inj⟩) (fun sm => cred (tallyOn ((c : Thread nD τ), sm) (launchCredit (Pipeline.owing O₀) 0 ((c : Thread nD τ), sm))))
      from by rw [bigSep_map]; rfl]
    exact BI.bigSep_subset (Finset.subset_univ _)
  refine hsub.trans ?_
  unfold claims
  rw [ports]
  iintro ⟨HM, -, HH⟩
  isplitl [HM]
  · iapply (Entails.of_eq (congrArg cred (launch_of c (.inl ()) 1 fun d => owed_meet d c))); iexact HM
  · iapply (each_mono (fun k => Entails.of_eq (congrArg cred (launch_of c (.inr (.inr k)) N fun d => owed_here d c k))) chunks); iexact HH

/-! ## The launch theorem's conditions -/

/-- What the launch gives a device before the call is what it starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start G'
  isplitl
  · isplitl [HG]; · iexact HG
    isplitl [Hc] <;> iassumption
  · iempintro

/-- With the scratch buffers it is what the body starts with. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩, ⟨%g, Hl⟩⟩
  isplitl [Hs]; · iexact Hs
  isplitl [Hr]
  · iexists f; iapply (Entails.of_eq (s_rows c f)); iexact Hr
  · iexists g; iapply (Entails.of_eq (l_rows c g)); iexact Hl

/-- What the body ends with has every semaphore at zero and returns the scratch buffers. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁
  iintro ⟨HzM, Hz, Hs, Hl⟩
  isplitl [HzM]; · iexact HzM
  isplitl [Hz]; · iexact Hz
  isplitl [Hs]
  · iexists (sent m c); iapply (Entails.of_eq (s_rows c (sent m c)).symm); iexact Hs
  · iexists (landed m c); iapply (Entails.of_eq (l_rows c (landed m c)).symm); iexact Hl

/-- The staging uses none of the exchange's semaphores. -/
theorem stage_free : ∀ (w : Fin cfg0.W) (s : Fin (cfg0.win w).nbuf) (p : Port), SemLoc.dma ((cfg0.win w).sem s) ≠ csem p := by decide

/-- A device may wait for the staging whatever it owes then. -/
theorem waits (c : Dev nD) : (levAts L lv : sProp 𝕄) ⊢ Pipeline.cellsWaits cfgs (dats m) () 0 c :=
  Pipeline.cellsWaits_intro cfgs (dats m) () 0 c fun w s t =>
    mayWait_stage c _ (stage_free w s) _ (by
      rcases t with ⟨_ | _, ht⟩
      · exact Or.inl rfl
      · exact Or.inr rfl)

/-! ## The run -/

/-- A window's array after the run. -/
def finalA (c : Dev nD) (w : Fin cfg0.W) : Buf (Elt F) ((cfg0.win w).arr.view.loc (c : Thread nD τ)) := (dats m 0 c).arrAt w cfg0.N

/-- Every device's arrays are at their final contents. -/
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- From any memory with every semaphore at zero and over any floats: every fair run of the 32 devices ends, each array
    at its final contents and every semaphore at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The input after the run is the input before it. -/
theorem finalA_x (c : Dev nD) : finalA m c (0 : Fin 2) = m (win0_0.arr.view.loc (c : Thread nD τ)) :=
  (dats (F := F) m 0 c).arrAt_in (0 : Fin 2) rfl _

end Cert.ChunkSwap

end
-- ==== Proof.Value.lean ====
/-
# What the result is, over the reals

Over the reals a chunk travels unrounded, so each element of a device's result is the sum of two elements of the whole
input: the one the device has and the one its partner has at the same place. That is the reference's sum over the two
halves of the mesh, in one order or the other.
-/
module

public import proofs.«01_k».proof.Proof.Run
public import proofs.«01_k».proof.Proof.Gen.ReferenceIdeal.Run
public import Idealize.ShloMosaic.Lib.Layout
public import Idealize.ShloMosaic.Lib.Pipeline.Value
public import Idealize.ShloMosaic.Lib.Pipeline.ValueKit.Geometry
public import Idealize.ShloMosaic.Lib.Pointwise.Tactic
public import Idealize.ShloMosaic.Lib.Pointwise.Reduce

@[expose] public section

noncomputable section

namespace Cert.ChunkSwap

open Cert.KernelIdeal Cert.KernelIdeal.Gen
open Idealize.ShloMosaic
open Idealize.ShloMosaic.TcCoe
open Idealize.SL.Sem

/-! ## The result array after the run -/

section AnyF
variable {F : FTy → Type} [FloatOps F] (m : (ℓ : Loc nD τ sig) → Buf (Elt F) ℓ)

/-- After the run a device's result array holds its eight totals. -/
theorem finalA_out (c : Dev nD) : finalA m c (1 : Fin 2) = outAt m c :=
  (dats m 0 c).arrAt_eq_of_after_last (1 : Fin 2) t0_0 (show win0_1.WholeAt t0_0 by decide +kernel) (outAt m c) fun _ => rfl

/-- An index of the input block, from an offset and an index of a window. -/
def shifted (off : Fin 3 → ℕ) (inb : ∀ a, off a + S1x256x512.size a ≤ S1x2048x1024.size a) (j : S1x256x512.Idx) : S1x2048x1024.Idx :=
  fun a => ⟨off a + (j a).val, lt_of_lt_of_le (Nat.add_lt_add_left (j a).isLt _) (inb a)⟩

/-- The staged block is the device's input block. -/
theorem xstg_apply (c : Dev nD) (i : S1x2048x1024.Idx) : xstg m c i = m ((c : Thread nD τ).loc main_arg0) i := by
  unfold xstg
  rw [View.read_apply]
  refine congrArg (m ((c : Thread nD τ).loc main_arg0)) (funext fun a => Fin.ext ?_)
  show 0 * _ + 1 * (i a).val = (i a).val
  omega

/-- A window reads the device's input block past the window's offset. -/
theorem window_apply (c : Dev nD) (off inb) (j : S1x256x512.Idx) :
    window m c off inb j = m ((c : Thread nD τ).loc main_arg0) (shifted off inb j) := by
  refine Eq.trans ?_ (xstg_apply m c _)
  refine congrArg (xstg m c) (funext fun a => Fin.ext ?_)
  show off a + 1 * (j a).val = off a + (j a).val
  omega

end AnyF

/-! ## One element of the result -/

variable (m : (ℓ : Loc nD τ sig) → Buf (Elt Ideal) ℓ)

/-- An element of a 256 × 512 piece as an element of a 1 × 256 × 512 window. -/
abbrev inWindow (j : S256x512.Idx) : S1x256x512.Idx := Fin.cons ⟨0, Nat.one_pos⟩ j

/-- Over the reals a chunk carries the window it was loaded from, unchanged. -/
theorem rounded_apply (v : Vec Ideal S1x256x512 .f32) (j : S256x512.Idx) : rounded v j = v (inWindow j) := by
  unfold rounded
  rw [shapeCast_self]
  exact shapeCast_dropUnit_apply ![256, 512] v _ j

/-- Over the reals a chunk's contribution is the window's element plus the received one. -/
theorem summed_apply (v : Vec Ideal S1x256x512 .f32) (u : Vec Ideal S256x512 .bf16) (j : S256x512.Idx) :
    (summed v u j : EReal) = v (inWindow j) + u j :=
  congrArg (fun z : EReal => z + u j) (shapeCast_dropUnit_apply ![256, 512] v _ j)

/-- Where in its 1 × 2048 × 1024 block a device finds the element it adds at place `i` of its result: the same row,
    the same column of the device's half `h`. -/
def place (h : ℕ) (hh : h < 2) (i : S2048x512.Idx) : S1x2048x1024.Idx := fun a =>
  ⟨![0, (i 0).val, 512 * h + (i 1).val] a, by
    have h0 : (i 0).val < 2048 := (i 0).isLt
    have h1 : (i 1).val < 512 := (i 1).isLt
    fin_cases a
    · exact Nat.one_pos
    · exact h0
    · show 512 * h + (i 1).val < 1024; omega⟩

/-- A device is in one of two halves. -/
theorem half_lt (c : Dev nD) : c.val / 16 < 2 := by have hc : c.val < 32 := c.isLt; omega

/-- The kept window of the chunk an element is in, at the element. -/
theorem keep_place (c : Dev nD) (i : S2048x512.Idx) :
    shifted (offKeep c (chunkOf i)) (offKeep_inb c _) (inWindow (inChunk i)) = place (c.val / 16) (half_lt c) i := by
  funext a
  refine Fin.ext ?_
  fin_cases a
  · rfl
  · show 256 * ((i 0).val / 256) + (i 0).val % 256 = (i 0).val
    omega
  · rfl

/-- The partner's sent window of the chunk an element is in, at the element: the same place of the partner's block. -/
theorem send_place (c : Dev nD) (i : S2048x512.Idx) :
    shifted (offSend (peer c) (chunkOf i)) (offSend_inb (peer c) _) (inWindow (inChunk i)) = place (c.val / 16) (half_lt c) i := by
  funext a
  refine Fin.ext ?_
  fin_cases a
  · rfl
  · show 256 * ((i 0).val / 256) + (i 0).val % 256 = (i 0).val
    omega
  · show 512 - 512 * ((peer c).val / 16) + (i 1).val = 512 * (c.val / 16) + (i 1).val
    rw [peer_half]
    have := half_lt c
    omega

/-- An element of device `c`'s input block, as a real. -/
def inputAt (c : Dev nD) (i : S1x2048x1024.Idx) : EReal := m ((c : Thread nD τ).loc main_arg0) i

/-- An element of a device's result is the sum of its own and its partner's inputs at one place. -/
theorem outAt_apply (c : Dev nD) (i : S2048x512.Idx) :
    (outAt m c i : EReal) = inputAt m c (place (c.val / 16) (half_lt c) i) + inputAt m (peer c) (place (c.val / 16) (half_lt c) i) := by
  show (summed (window m c (offKeep c (chunkOf i)) _) (carried m (peer c) (chunkOf i)) (inChunk i) : EReal) = _
  rw [summed_apply]
  unfold carried
  rw [rounded_apply, window_apply, window_apply, keep_place, send_place]
  rfl

/-! ## The whole arrays -/

/-- An element of the whole input: which half of the mesh has it, its row and its column. -/
def wholeAt (r : Fin 2) (i : S2048x512.Idx) (h : ℕ) (hh : h < 2) : (⟨3, ![2, 2048, 1024]⟩ : Shape).Idx := fun a =>
  ⟨![r.val, (i 0).val, 512 * h + (i 1).val] a, by
    have h0 : (i 0).val < 2048 := (i 0).isLt
    have h1 : (i 1).val < 512 := (i 1).isLt
    fin_cases a
    · exact r.isLt
    · exact h0
    · show 512 * h + (i 1).val < 1024; omega⟩

/-- An index of the whole input is known by its three coordinates. -/
theorem eq_wholeAt (k : (⟨3, ![2, 2048, 1024]⟩ : Shape).Idx) (r : Fin 2) (i : S2048x512.Idx) (h : ℕ) (hh : h < 2)
    (h0 : (k 0).val = r.val) (h1 : (k 1).val = (i 0).val) (h2 : (k 2).val = 512 * h + (i 1).val) : k = wholeAt r i h hh := by
  funext a
  refine Fin.ext ?_
  fin_cases a
  exacts [h0, h1, h2]

/-- A device's coordinate along the axis the input is cut on says which half of the mesh it is in. -/
theorem half_coord (c : Dev nD) : Layout.meshLin [2, 4, 4] c.val [0] = c.val / 16 := by
  have := half_lt c
  show c.val / 16 % 2 * 1 + 0 = c.val / 16
  omega

/-- A device's input block is its half of the mesh's row of the whole input. -/
theorem input_block {α : Type} (X : (⟨3, ![2, 2048, 1024]⟩ : Shape).Idx → α) (c : Dev nD) (i : S2048x512.Idx) (h : ℕ) (hh : h < 2) :
    (Layout.blockN ⟨3, ![1, 2048, 1024]⟩ ⟨3, ![2, 2048, 1024]⟩ (Layout.meshBlock [2, 4, 4] ![[0], [], []] c) X) (place h hh i)
      = X (wholeAt ⟨c.val / 16, half_lt c⟩ i h hh) := by
  rw [Layout.blockN_apply]
  refine congrArg X (eq_wholeAt _ _ _ _ _ ?_ ?_ ?_)
  · show Layout.meshLin [2, 4, 4] c.val [0] * 1 + 0 = c.val / 16
    rw [half_coord]; omega
  · show 0 * 2048 + (i 0).val = (i 0).val
    omega
  · show 0 * 1024 + (512 * h + (i 1).val) = 512 * h + (i 1).val
    omega

/-- Where a device's result element is in the whole result: the same row. -/
theorem result_row (H : Layout.TilesN ⟨2, ![2048, 512]⟩ ⟨2, ![2048, 1024]⟩ fun b => Layout.cutSize [2, 4, 4] (![[], [0]] b)) (c : Dev nD)
    (i : S2048x512.Idx) : (H.idx (Layout.meshBlock [2, 4, 4] ![[], [0]] c) i (0 : Fin 2)).val = (i 0).val := by
  rw [Layout.TilesN.idx_val]
  show 0 * 2048 + (i 0).val = (i 0).val
  omega

/-- And its column there, counted from the device's half. -/
theorem result_col (H : Layout.TilesN ⟨2, ![2048, 512]⟩ ⟨2, ![2048, 1024]⟩ fun b => Layout.cutSize [2, 4, 4] (![[], [0]] b)) (c : Dev nD)
    (i : S2048x512.Idx) : (H.idx (Layout.meshBlock [2, 4, 4] ![[], [0]] c) i (1 : Fin 2)).val = 512 * (c.val / 16) + (i 1).val := by
  rw [Layout.TilesN.idx_val]
  show Layout.meshLin [2, 4, 4] c.val [0] * 512 + (i 1).val = 512 * (c.val / 16) + (i 1).val
  rw [half_coord]; omega

/-- The reference's result: the sum of the whole input's two slabs, as the host computes it. -/
abbrev refOut (X : FVec Ideal Cert.ReferenceIdeal.S2x2048x1024 .f32) : FVec Ideal Cert.ReferenceIdeal.S2048x1024 .f32 :=
  Host.reduceAdd X (constant Cert.ReferenceIdeal.S_ .f32 0x00000000#32) Cert.ReferenceIdeal.Gen.facts.reducesTo_S2x2048x1024_S2048x1024_d0
    Cert.ReferenceIdeal.Gen.facts.h_S_

/-- A device's block of the reference's result, at an element: the two slabs' elements added. -/
theorem refOut_block (X : FVec Ideal Cert.ReferenceIdeal.S2x2048x1024 .f32) (c : Dev nD) (i : S2048x512.Idx) :
    ((Layout.blockN ⟨2, ![2048, 512]⟩ ⟨2, ![2048, 1024]⟩ (Layout.meshBlock [2, 4, 4] ![[], [0]] c) (refOut X)) i : EReal)
      = (X (wholeAt 0 i (c.val / 16) (half_lt c)) : EReal) + (X (wholeAt 1 i (c.val / 16) (half_lt c)) : EReal) := by
  rw [Layout.blockN_apply]
  unfold refOut
  rw [Host.reduceAdd_apply, Ideal.hostReduceAdd_def, Ideal.hostReduceAdd_r3_a0, Fin.sum_univ_two]
  have hz : (constant Cert.ReferenceIdeal.S_ .f32 0x00000000#32 : FVec Ideal Cert.ReferenceIdeal.S_ .f32)
      (Shape.Idx.first Cert.ReferenceIdeal.Gen.facts.h_S_) = (0 : EReal) := Ideal.ofBits_zero_f32
  rw [hz, zero_add]
  have hr := result_row (by decide) c i
  have hc := result_col (by decide) c i
  refine congrArg₂ (fun x y : EReal => x + y) (congrArg X (eq_wholeAt _ _ _ _ _ rfl hr hc)) (congrArg X (eq_wholeAt _ _ _ _ _ rfl hr hc))

/-- Every device's result is its block of the reference's, when every device's input is its block of the reference's. -/
theorem outAt_block (X : FVec Ideal Cert.ReferenceIdeal.S2x2048x1024 .f32)
    (hX : ∀ c : Dev nD, m ((c : Thread nD τ).loc main_arg0)
      = Layout.blockN ⟨3, ![1, 2048, 1024]⟩ ⟨3, ![2, 2048, 1024]⟩ (Layout.meshBlock [2, 4, 4] ![[0], [], []] c) X) (c : Dev nD) :
    outAt m c = Layout.blockN ⟨2, ![2048, 512]⟩ ⟨2, ![2048, 1024]⟩ (Layout.meshBlock [2, 4, 4] ![[], [0]] c) (refOut X) := by
  funext i
  refine (outAt_apply m c i).trans (Eq.trans ?_ (refOut_block X c i).symm)
  unfold inputAt
  rw [hX c, hX (peer c), input_block, input_block]
  have hp := peer_half c
  rcases (show c.val / 16 = 0 ∨ c.val / 16 = 1 by have := half_lt c; omega) with h | h
  · have e0 : (⟨c.val / 16, half_lt c⟩ : Fin 2) = 0 := Fin.ext h
    have e1 : (⟨(peer c).val / 16, half_lt (peer c)⟩ : Fin 2) = 1 := Fin.ext (hp.trans (by rw [h]; rfl))
    rw [e0, e1]
  · have e0 : (⟨c.val / 16, half_lt c⟩ : Fin 2) = 1 := Fin.ext h
    have e1 : (⟨(peer c).val / 16, half_lt (peer c)⟩ : Fin 2) = 0 := Fin.ext (hp.trans (by rw [h]; rfl))
    rw [e0, e1]
    exact add_comm (X _ : EReal) (X _)

end Cert.ChunkSwap

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

noncomputable section

namespace Cert.Proof

open Idealize.ShloMosaic Idealize.SL.Sem

/-- At any float values the kernel runs to its end, its input unchanged and its semaphores at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0 :=
  (θ_run Cert.KernelIdeal.defs _ _).mono (fun _ h => ⟨fun c => (h.1 c (0 : Fin 2)).trans (ChunkSwap.finalA_x m c), h.2⟩)
    (ChunkSwap.run_main m ρ)

/-- The kernel and its idealization call the same body. -/
theorem bodies_same {F : FTy → Type} [FloatOps F] : Cert.Kernel.defs₀ (F := F) = Cert.KernelIdeal.defs₀ (F := F) := by
  refine congrArg Defs.onTc (funext fun l => funext fun ts => ?_)
  match l, ts with
  | 0, (_, _) => rfl
  | ⟨_ + 1, h⟩, _ => exact absurd h (Nat.not_lt.2 (Nat.le_add_left _ _))

/-- So everything that they call is the same. -/
theorem calls_same {F : FTy → Type} [FloatOps F] : Cert.Kernel.defs (F := F) = Cert.KernelIdeal.defs (F := F) :=
  congrArg (Pipeline.defs Cert.KernelIdeal.pcfgs) bodies_same

/-- The kernel as it is written therefore runs to its end too, at machine floats. -/
theorem frame_kernel : Cert.quiescent_Kernel := fun m ρ _ => by
  rw [calls_same]
  exact frame_any (F := Bits) m ρ

/-- So does the idealized kernel, over the reals. -/
theorem frame_ideal : Cert.quiescent_KernelIdeal := fun m ρ _ => frame_any (F := Ideal) m ρ

/-- And the reference, which has no semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

/-- Over the reals, from inputs that are the devices' blocks of one array, every device ends with its block of the sum
    the reference ends with. -/
theorem algebraic : Cert.algebraic_KernelIdeal_ReferenceIdeal := fun m ρ m' ρ' _ hX =>
  ⟨ChunkSwap.refOut (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h.1 c (1 : Fin 2)).trans ((ChunkSwap.finalA_out m c).trans (ChunkSwap.outAt_block m _ hX c)),
        (h.1 c (0 : Fin 2)).trans (ChunkSwap.finalA_x m c)⟩)
      (ChunkSwap.run_main (F := Ideal) m ρ),
    (θ_run Cert.ReferenceIdeal.defs _ _).mono (fun _ h => h 0) (Cert.ReferenceIdeal.Value.run m' ρ')⟩

/-- All five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
